-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "seq_mean" .f32 0x3C2AAAAB#32 ((96⁻¹ : ℝ) : EReal)

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S32x96 : Shape := ⟨2, ![32, 96]⟩
abbrev S32x72x21 : Shape := ⟨3, ![32, 72, 21]⟩
abbrev S32x72 : Shape := ⟨2, ![32, 72]⟩
abbrev S1x128 : Shape := ⟨2, ![1, 128]⟩
abbrev S128 : Shape := ⟨1, ![128]⟩
abbrev S2x128x4 : Shape := ⟨3, ![2, 128, 4]⟩
abbrev S2x4x128x256 : Shape := ⟨4, ![2, 4, 128, 256]⟩
abbrev S2x4x256 : Shape := ⟨3, ![2, 4, 256]⟩
abbrev S2x4x256x128 : Shape := ⟨4, ![2, 4, 256, 128]⟩
abbrev S2x4x128 : Shape := ⟨3, ![2, 4, 128]⟩
abbrev S1x1 : Shape := ⟨2, ![1, 1]⟩
abbrev S1 : Shape := ⟨1, ![1]⟩
abbrev S1x127 : Shape := ⟨2, ![1, 127]⟩
abbrev S127 : Shape := ⟨1, ![127]⟩
abbrev S256x128 : Shape := ⟨2, ![256, 128]⟩
abbrev S128x128 : Shape := ⟨2, ![128, 128]⟩
abbrev S128x1 : Shape := ⟨2, ![128, 1]⟩
abbrev S_ : Shape := ⟨0, ![]⟩

class Facts : Prop where
  bcast_S_S32x72x21 : S_.BroadcastsInDim S32x72x21 (![] : Fin 0 → Fin S32x72x21.rank)
  reducesTo_S32x72x21_S_d0_1_2 : S32x72x21.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S2x128x4 : S_.BroadcastsInDim S2x128x4 (![] : Fin 0 → Fin S2x128x4.rank)
  reducesTo_S2x128x4_S_d0_1_2 : S2x128x4.ReducesTo [0, 1, 2] S_
  bcast_S_S2x4x128x256 : S_.BroadcastsInDim S2x4x128x256 (![] : Fin 0 → Fin S2x4x128x256.rank)
  reducesTo_S2x4x128x256_S_d0_1_2_3 : S2x4x128x256.ReducesTo [0, 1, 2, 3] S_
  bcast_S_S2x4x256 : S_.BroadcastsInDim S2x4x256 (![] : Fin 0 → Fin S2x4x256.rank)
  reducesTo_S2x4x256_S_d0_1_2 : S2x4x256.ReducesTo [0, 1, 2] S_
  bcast_S_S2x4x256x128 : S_.BroadcastsInDim S2x4x256x128 (![] : Fin 0 → Fin S2x4x256x128.rank)
  reducesTo_S2x4x256x128_S_d0_1_2_3 : S2x4x256x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part2 {F : FTy → Type} [FloatOps F] (main_arg10 : FVec F S2x4x128 .f32) (main_v33 : IVec S_ 1) : IVec S_ 1 :=
  let main_v34 : FVec F S2x4x128 .f32 := Host.absf main_arg10
  let main_cst_12 : FVec F S_ .f32 := constant S_ .f32 0x461C4000#32
  let main_v35 : FVec F S2x4x128 .f32 := broadcastInDim S2x4x128 ![] bcast_S_S2x4x128 main_cst_12
  let main_v36 : IVec S2x4x128 1 := cmpf .ole main_v34 main_v35
  let main_c_13 : IVec S_ 1 := constantI S_ 1 1#1
  let main_v37 : IVec S_ 1 := (fun x v => Host.reduce IntOp.andi x v reducesTo_S2x4x128_S_d0_1_2 h_S_) main_v36 main_c_13
  let main_v38 : IVec S_ 1 := andi main_v33 main_v37
  main_v38

def fn_part1 {F : FTy → Type} [FloatOps F] (main_arg7 : FVec F S2x4x128x256 .f32) (main_arg8 : FVec F S2x4x256 .f32) (main_arg9 : FVec F S2x4x256x128 .f32) (main_arg10 : FVec F S2x4x128 .f32) (main_v13 : IVec S_ 1) (main_v16 : IVec S2x128x4 1) : IVec S_ 1 :=
  let main_c_5 : IVec S_ 1 := constantI S_ 1 1#1
  let main_v17 : IVec S_ 1 := (fun x v => Host.reduce IntOp.andi x v reducesTo_S2x128x4_S_d0_1_2 h_S_) main_v16 main_c_5
  let main_v18 : IVec S_ 1 := andi main_v13 main_v17
  let main_v19 : FVec F S2x4x128x256 .f32 := Host.absf main_arg7
  let main_cst_6 : FVec F S_ .f32 := constant S_ .f32 0x461C4000#32
  let main_v20 : FVec F S2x4x128x256 .f32 := broadcastInDim S2x4x128x256 ![] bcast_S_S2x4x128x256 main_cst_6
  let main_v21 : IVec S2x4x128x256 1 := cmpf .ole main_v19 main_v20
  let main_c_7 : IVec S_ 1 := constantI S_ 1 1#1
  let main_v22 : IVec S_ 1 := (fun x v => Host.reduce IntOp.andi x v reducesTo_S2x4x128x256_S_d0_1_2_3 h_S_) main_v21 main_c_7
  let main_v23 : IVec S_ 1 := andi main_v18 main_v22
  let main_v24 : FVec F S2x4x256 .f32 := Host.absf main_arg8
  let main_cst_8 : FVec F S_ .f32 := constant S_ .f32 0x461C4000#32
  let main_v25 : FVec F S2x4x256 .f32 := broadcastInDim S2x4x256 ![] bcast_S_S2x4x256 main_cst_8
  let main_v26 : IVec S2x4x256 1 := cmpf .ole main_v24 main_v25
  let main_c_9 : IVec S_ 1 := constantI S_ 1 1#1
  let main_v27 : IVec S_ 1 := (fun x v => Host.reduce IntOp.andi x v reducesTo_S2x4x256_S_d0_1_2 h_S_) main_v26 main_c_9
  let main_v28 : IVec S_ 1 := andi main_v23 main_v27
  let main_v29 : FVec F S2x4x256x128 .f32 := Host.absf main_arg9
  let main_cst_10 : FVec F S_ .f32 := constant S_ .f32 0x461C4000#32
  let main_v30 : FVec F S2x4x256x128 .f32 := broadcastInDim S2x4x256x128 ![] bcast_S_S2x4x256x128 main_cst_10
  let main_v31 : IVec S2x4x256x128 1 := cmpf .ole main_v29 main_v30
  let main_c_11 : IVec S_ 1 := constantI S_ 1 1#1
  let main_v32 : IVec S_ 1 := (fun x v => Host.reduce IntOp.andi x v reducesTo_S2x4x256x128_S_d0_1_2_3 h_S_) main_v31 main_c_11
  let main_v33 : IVec S_ 1 := andi main_v28 main_v32
  fn_part2 (F := F) main_arg10 main_v33

def fn {F : FTy → Type} [FloatOps F] (main_arg0 : FVec F S32x96 .f32) (main_arg1 : FVec F S32x72x21 .f32) (main_arg2 : FVec F S32x72 .f32) (main_arg3 : FVec F S32x72x21 .f32) (main_arg4 : FVec F S1x128 .f32) (main_arg5 : FVec F S128 .f32) (main_arg6 : FVec F S2x128x4 .f32) (main_arg7 : FVec F S2x4x128x256 .f32) (main_arg8 : FVec F S2x4x256 .f32) (main_arg9 : FVec F S2x4x256x128 .f32) (main_arg10 : FVec F S2x4x128 .f32) (main_arg11 : FVec F S1x1 .f32) (main_arg12 : FVec F S1 .f32) (main_arg13 : FVec F S1x127 .f32) (main_arg14 : FVec F S127 .f32) (main_arg15 : FVec F S256x128 .f32) (main_arg16 : FVec F S128 .f32) (main_arg17 : FVec F S128x128 .f32) (main_arg18 : FVec F S128 .f32) (main_arg19 : FVec F S128x1 .f32) (main_arg20 : FVec F S1 .f32) : IVec S_ 1 :=
  let main_v0 : FVec F S32x72x21 .f32 := Host.absf main_arg1
  let main_cst : FVec F S_ .f32 := constant S_ .f32 0x461C4000#32
  let main_v1 : FVec F S32x72x21 .f32 := broadcastInDim S32x72x21 ![] bcast_S_S32x72x21 main_cst
  let main_v2 : IVec S32x72x21 1 := cmpf .ole main_v0 main_v1
  let main_c : IVec S_ 1 := constantI S_ 1 1#1
  let main_v3 : IVec S_ 1 := (fun x v => Host.reduce IntOp.andi x v reducesTo_S32x72x21_S_d0_1_2 h_S_) main_v2 main_c
  let main_v4 : FVec F S1x128 .f32 := Host.absf main_arg4
  let main_cst_0 : FVec F S_ .f32 := constant S_ .f32 0x461C4000#32
  let main_v5 : FVec F S1x128 .f32 := broadcastInDim S1x128 ![] bcast_S_S1x128 main_cst_0
  let main_v6 : IVec S1x128 1 := cmpf .ole main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg5
  let main_cst_2 : FVec F S_ .f32 := constant S_ .f32 0x461C4000#32
  let main_v10 : FVec F S128 .f32 := broadcastInDim S128 ![] bcast_S_S128 main_cst_2
  let main_v11 : IVec S128 1 := cmpf .ole main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x4 .f32 := Host.absf main_arg6
  let main_cst_4 : FVec F S_ .f32 := constant S_ .f32 0x461C4000#32
  let main_v15 : FVec F S2x128x4 .f32 := broadcastInDim S2x128x4 ![] bcast_S_S2x128x4 main_cst_4
  let main_v16 : IVec S2x128x4 1 := cmpf .ole main_v14 main_v15
  fn_part1 (F := F) main_arg7 main_arg8 main_arg9 main_arg10 main_v13 main_v16
-- ==== Kernel.lean ====
abbrev S32x96 : Shape := ⟨2, ![32, 96]⟩
abbrev S32x72x21 : Shape := ⟨3, ![32, 72, 21]⟩
abbrev S32x72 : Shape := ⟨2, ![32, 72]⟩
abbrev S1x128 : Shape := ⟨2, ![1, 128]⟩
abbrev S128 : Shape := ⟨1, ![128]⟩
abbrev S2x128x4 : Shape := ⟨3, ![2, 128, 4]⟩
abbrev S2x4x128x256 : Shape := ⟨4, ![2, 4, 128, 256]⟩
abbrev S2x4x256 : Shape := ⟨3, ![2, 4, 256]⟩
abbrev S2x4x256x128 : Shape := ⟨4, ![2, 4, 256, 128]⟩
abbrev S2x4x128 : Shape := ⟨3, ![2, 4, 128]⟩
abbrev S1x1 : Shape := ⟨2, ![1, 1]⟩
abbrev S1 : Shape := ⟨1, ![1]⟩
abbrev S1x127 : Shape := ⟨2, ![1, 127]⟩
abbrev S127 : Shape := ⟨1, ![127]⟩
abbrev S256x128 : Shape := ⟨2, ![256, 128]⟩
abbrev S128x128 : Shape := ⟨2, ![128, 128]⟩
abbrev S128x1 : Shape := ⟨2, ![128, 1]⟩
abbrev S_ : Shape := ⟨0, ![]⟩
abbrev S32x96x21 : Shape := ⟨3, ![32, 96, 21]⟩
abbrev S32x21x96 : Shape := ⟨3, ![32, 21, 96]⟩
abbrev S32x24x96 : Shape := ⟨3, ![32, 24, 96]⟩
abbrev S32x2304x1 : Shape := ⟨3, ![32, 2304, 1]⟩
abbrev S32x96x1 : Shape := ⟨3, ![32, 96, 1]⟩
abbrev S2x128x8 : Shape := ⟨3, ![2, 128, 8]⟩
abbrev S1x4 : Shape := ⟨2, ![1, 4]⟩
abbrev S1x8 : Shape := ⟨2, ![1, 8]⟩
abbrev S2x128x4x256 : Shape := ⟨4, ![2, 128, 4, 256]⟩
abbrev S2x128x1024 : Shape := ⟨3, ![2, 128, 1024]⟩
abbrev S2x1x1024 : Shape := ⟨3, ![2, 1, 1024]⟩
abbrev S2x4x1x128 : Shape := ⟨4, ![2, 4, 1, 128]⟩
abbrev S1x2304x1 : Shape := ⟨3, ![1, 2304, 1]⟩
abbrev S1x96x1 : Shape := ⟨3, ![1, 96, 1]⟩
abbrev S2304x1 : Shape := ⟨2, ![2304, 1]⟩
abbrev S2304x128 : Shape := ⟨2, ![2304, 128]⟩
abbrev S1x128x8 : Shape := ⟨3, ![1, 128, 8]⟩
abbrev S128x8 : Shape := ⟨2, ![128, 8]⟩
abbrev S2304x8 : Shape := ⟨2, ![2304, 8]⟩
abbrev S2304 : Shape := ⟨1, ![2304]⟩
abbrev S1x128x1024 : Shape := ⟨3, ![1, 128, 1024]⟩
abbrev S128x1024 : Shape := ⟨2, ![128, 1024]⟩
abbrev S2304x1024 : Shape := ⟨2, ![2304, 1024]⟩
abbrev S1x1x1024 : Shape := ⟨3, ![1, 1, 1024]⟩
abbrev S1x1024 : Shape := ⟨2, ![1, 1024]⟩
abbrev S2304x256 : Shape := ⟨2, ![2304, 256]⟩
abbrev S1x1x256x128 : Shape := ⟨4, ![1, 1, 256, 128]⟩
abbrev S1x1x1x128 : Shape := ⟨4, ![1, 1, 1, 128]⟩
abbrev S24x96x128 : Shape := ⟨3, ![24, 96, 128]⟩
abbrev S24x128 : Shape := ⟨2, ![24, 128]⟩
abbrev S96x1 : Shape := ⟨2, ![96, 1]⟩
abbrev S96x128 : Shape := ⟨2, ![96, 128]⟩
abbrev S1x24x128 : Shape := ⟨3, ![1, 24, 128]⟩
abbrev S96x24x128 : Shape := ⟨3, ![96, 24, 128]⟩
abbrev S96x1x128 : Shape := ⟨3, ![96, 1, 128]⟩
abbrev S32x96x24 : Shape := ⟨3, ![32, 96, 24]⟩
abbrev S1x32x96x21 : Shape := ⟨4, ![1, 32, 96, 21]⟩

abbrev nBuf : Space → Nat
  | .hbm => 58
  | .vmem => 24
  | .smem => 0
  | _ => 0

abbrev bufTy : (tb : Table) → Fin (tcTables nBuf tb) → BufTy
  | .hbm, ⟨0, _⟩ => ⟨S32x96, .f32⟩
  | .hbm, ⟨1, _⟩ => ⟨S32x72x21, .f32⟩
  | .hbm, ⟨2, _⟩ => ⟨S32x72, .f32⟩
  | .hbm, ⟨3, _⟩ => ⟨S32x72x21, .f32⟩
  | .hbm, ⟨4, _⟩ => ⟨S1x128, .f32⟩
  | .hbm, ⟨5, _⟩ => ⟨S128, .f32⟩
  | .hbm, ⟨6, _⟩ => ⟨S2x128x4, .f32⟩
  | .hbm, ⟨7, _⟩ => ⟨S2x4x128x256, .f32⟩
  | .hbm, ⟨8, _⟩ => ⟨S2x4x256, .f32⟩
  | .hbm, ⟨9, _⟩ => ⟨S2x4x256x128, .f32⟩
  | .hbm, ⟨10, _⟩ => ⟨S2x4x128, .f32⟩
  | .hbm, ⟨11, _⟩ => ⟨S1x1, .f32⟩
  | .hbm, ⟨12, _⟩ => ⟨S1, .f32⟩
  | .hbm, ⟨13, _⟩ => ⟨S1x127, .f32⟩
  | .hbm, ⟨14, _⟩ => ⟨S127, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S_, .i32⟩
  | .hbm, ⟨22, _⟩ => ⟨S_, .f32⟩
  | .hbm, ⟨23, _⟩ => ⟨S32x96x21, .f32⟩
  | .hbm, ⟨24, _⟩ => ⟨S32x21x96, .f32⟩
  | .hbm, ⟨25, _⟩ => ⟨S_, .i32⟩
  | .hbm, ⟨26, _⟩ => ⟨S_, .f32⟩
  | .hbm, ⟨27, _⟩ => ⟨S32x24x96, .f32⟩
  | .hbm, ⟨28, _⟩ => ⟨S32x2304x1, .f32⟩
  | .hbm, ⟨29, _⟩ => ⟨S32x96x1, .f32⟩
  | .hbm, ⟨30, _⟩ => ⟨S_, .f32⟩
  | .hbm, ⟨31, _⟩ => ⟨S2x128x4, .f32⟩
  | .hbm, ⟨32, _⟩ => ⟨S2x128x8, .f32⟩
  | .hbm, ⟨33, _⟩ => ⟨S_, .f32⟩
  | .hbm, ⟨34, _⟩ => ⟨S1x4, .f32⟩
  | .hbm, ⟨35, _⟩ => ⟨S_, .f32⟩
  | .hbm, ⟨36, _⟩ => ⟨S1x4, .f32⟩
  | .hbm, ⟨37, _⟩ => ⟨S1x8, .f32⟩
  | .hbm, ⟨38, _⟩ => ⟨S2x128x4x256, .f32⟩
  | .hbm, ⟨39, _⟩ => ⟨S2x128x1024, .f32⟩
  | .hbm, ⟨40, _⟩ => ⟨S2x1x1024, .f32⟩
  | .hbm, ⟨41, _⟩ => ⟨S2x4x1x128, .f32⟩
  | .hbm, ⟨42, _⟩ => ⟨S1x1, .f32⟩
  | .hbm, ⟨43, _⟩ => ⟨S_, .f32⟩
  | .hbm, ⟨44, _⟩ => ⟨S1x1, .f32⟩
  | .hbm, ⟨45, _⟩ => ⟨S1x128, .f32⟩
  | .hbm, ⟨46, _⟩ => ⟨S_, .f32⟩
  | .hbm, ⟨47, _⟩ => ⟨S1x1, .f32⟩
  | .hbm, ⟨48, _⟩ => ⟨S1x127, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x1, .f32⟩
  | .hbm, ⟨53, _⟩ => ⟨S1x128, .f32⟩
  | .hbm, ⟨54, _⟩ => ⟨S32x2304x1, .f32⟩
  | .hbm, ⟨55, _⟩ => ⟨S32x96x24, .f32⟩
  | .hbm, ⟨56, _⟩ => ⟨S32x96x21, .f32⟩
  | .hbm, ⟨57, _⟩ => ⟨S1x32x96x21, .f32⟩
  | .local _ .vmem, ⟨0, _⟩ => ⟨S1x2304x1, .f32⟩
  | .local _ .vmem, ⟨1, _⟩ => ⟨S1x2304x1, .f32⟩
  | .local _ .vmem, ⟨2, _⟩ => ⟨S1x96x1, .f32⟩
  | .local _ .vmem, ⟨3, _⟩ => ⟨S1x96x1, .f32⟩
  | .local _ .vmem, ⟨4, _⟩ => ⟨S1x128, .f32⟩
  | .local _ .vmem, ⟨5, _⟩ => ⟨S1x128, .f32⟩
  | .local _ .vmem, ⟨6, _⟩ => ⟨S2x128x8, .f32⟩
  | .local _ .vmem, ⟨7, _⟩ => ⟨S1x8, .f32⟩
  | .local _ .vmem, ⟨8, _⟩ => ⟨S2x128x1024, .f32⟩
  | .local _ .vmem, ⟨9, _⟩ => ⟨S2x1x1024, .f32⟩
  | .local _ .vmem, ⟨10, _⟩ => ⟨S2x4x256x128, .f32⟩
  | .local _ .vmem, ⟨11, _⟩ => ⟨S2x4x1x128, .f32⟩
  | .local _ .vmem, ⟨12, _⟩ => ⟨S1x1, .f32⟩
  | .local _ .vmem, ⟨13, _⟩ => ⟨S1x1, .f32⟩
  | .local _ .vmem, ⟨14, _⟩ => ⟨S1x128, .f32⟩
  | .local _ .vmem, ⟨15, _⟩ => ⟨S1x128, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S1x2304x1, .f32⟩
  | .local _ .vmem, ⟨23, _⟩ => ⟨S1x2304x1, .f32⟩
  | _, _ => ⟨S32x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x2304x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "seq_mean" => some ((96⁻¹ : ℝ) : EReal)
  | _ => none
-- ==== ReferenceIdeal.lean ====
abbrev S32x96 : Shape := ⟨2, ![32, 96]⟩
abbrev S32x72x21 : Shape := ⟨3, ![32, 72, 21]⟩
abbrev S32x72 : Shape := ⟨2, ![32, 72]⟩
abbrev S1x128 : Shape := ⟨2, ![1, 128]⟩
abbrev S128 : Shape := ⟨1, ![128]⟩
abbrev S2x128x4 : Shape := ⟨3, ![2, 128, 4]⟩
abbrev S2x4x128x256 : Shape := ⟨4, ![2, 4, 128, 256]⟩
abbrev S2x4x256 : Shape := ⟨3, ![2, 4, 256]⟩
abbrev S2x4x256x128 : Shape := ⟨4, ![2, 4, 256, 128]⟩
abbrev S2x4x128 : Shape := ⟨3, ![2, 4, 128]⟩
abbrev S1x1 : Shape := ⟨2, ![1, 1]⟩
abbrev S1 : Shape := ⟨1, ![1]⟩
abbrev S1x127 : Shape := ⟨2, ![1, 127]⟩
abbrev S127 : Shape := ⟨1, ![127]⟩
abbrev S256x128 : Shape := ⟨2, ![256, 128]⟩
abbrev S128x128 : Shape := ⟨2, ![128, 128]⟩
abbrev S128x1 : Shape := ⟨2, ![128, 1]⟩
abbrev S_ : Shape := ⟨0, ![]⟩
abbrev S32x24x21 : Shape := ⟨3, ![32, 24, 21]⟩
abbrev S32x96x21 : Shape := ⟨3, ![32, 96, 21]⟩
abbrev S32x96x21x1 : Shape := ⟨4, ![32, 96, 21, 1]⟩
abbrev S32x96x21x128 : Shape := ⟨4, ![32, 96, 21, 128]⟩
abbrev S1x1x1x128 : Shape := ⟨4, ![1, 1, 1, 128]⟩
abbrev S64512 : Shape := ⟨1, ![64512]⟩
abbrev S64512x128 : Shape := ⟨2, ![64512, 128]⟩
abbrev S1x128x4 : Shape := ⟨3, ![1, 128, 4]⟩
abbrev S128x4 : Shape := ⟨2, ![128, 4]⟩
abbrev S64512x4 : Shape := ⟨2, ![64512, 4]⟩
abbrev S64512x2 : Shape := ⟨2, ![64512, 2]⟩
abbrev S64512x1 : Shape := ⟨2, ![64512, 1]⟩
abbrev S64512x2x1 : Shape := ⟨3, ![64512, 2, 1]⟩
abbrev S64512x2x2 : Shape := ⟨3, ![64512, 2, 2]⟩
abbrev S1x1x128x256 : Shape := ⟨4, ![1, 1, 128, 256]⟩
abbrev S128x256 : Shape := ⟨2, ![128, 256]⟩
abbrev S64512x256 : Shape := ⟨2, ![64512, 256]⟩
abbrev S1x1x256 : Shape := ⟨3, ![1, 1, 256]⟩
abbrev S256 : Shape := ⟨1, ![256]⟩
abbrev S1x256 : Shape := ⟨2, ![1, 256]⟩
abbrev S1x1x256x128 : Shape := ⟨4, ![1, 1, 256, 128]⟩
abbrev S1x1x128 : Shape := ⟨3, ![1, 1, 128]⟩
abbrev S32x21x96x128 : Shape := ⟨4, ![32, 21, 96, 128]⟩
abbrev S32x21x128 : Shape := ⟨3, ![32, 21, 128]⟩
abbrev S32x21x1x128 : Shape := ⟨4, ![32, 21, 1, 128]⟩
abbrev S32x1x96x1 : Shape := ⟨4, ![32, 1, 96, 1]⟩
abbrev S32x21x96x1 : Shape := ⟨4, ![32, 21, 96, 1]⟩
abbrev S1x1x1x1 : Shape := ⟨4, ![1, 1, 1, 1]⟩
abbrev S32x21x96x127 : Shape := ⟨4, ![32, 21, 96, 127]⟩
abbrev S1x1x1x127 : Shape := ⟨4, ![1, 1, 1, 127]⟩
abbrev S32x21x96x256 : Shape := ⟨4, ![32, 21, 96, 256]⟩
abbrev S32x21x96 : Shape := ⟨3, ![32, 21, 96]⟩
abbrev S1x32x96x21 : Shape := ⟨4, ![1, 32, 96, 21]⟩

abbrev nBuf : Space → Nat
  | .hbm => 348
  | .vmem => 0
  | .smem => 0
  | _ => 0

abbrev hbmTy0_0 (i : Nat) : BufTy := match i % 128 with
  | 0 => ⟨S32x96, .f32⟩
  | 1 => ⟨S32x72x21, .f32⟩
  | 2 => ⟨S32x72, .f32⟩
  | 3 => ⟨S32x72x21, .f32⟩
  | 4 => ⟨S1x128, .f32⟩
  | 5 => ⟨S128, .f32⟩
  | 6 => ⟨S2x128x4, .f32⟩
  | 7 => ⟨S2x4x128x256, .f32⟩
  | 8 => ⟨S2x4x256, .f32⟩
  | 9 => ⟨S2x4x256x128, .f32⟩
  | 10 => ⟨S2x4x128, .f32⟩
  | 11 => ⟨S1x1, .f32⟩
  | 12 => ⟨S1, .f32⟩
  | 13 => ⟨S1x127, .f32⟩
  | 14 => ⟨S127, .f32⟩
  | 15 => ⟨S256x128, .f32⟩
  | 16 => ⟨S128, .f32⟩
  | 17 => ⟨S128x128, .f32⟩
  | 18 => ⟨S128, .f32⟩
  | 19 => ⟨S128x1, .f32⟩
  | 20 => ⟨S1, .f32⟩
  | 21 => ⟨S_, .f32⟩
  | 22 => ⟨S32x24x21, .f32⟩
  | 23 => ⟨S32x96x21, .f32⟩
  | 24 => ⟨S32x96x21x1, .f32⟩
  | 25 => ⟨S32x96x21x128, .f32⟩
  | 26 => ⟨S1x1x1x128, .f32⟩
  | 27 => ⟨S32x96x21x128, .f32⟩
  | 28 => ⟨S32x96x21x128, .f32⟩
  | 29 => ⟨S64512, .i32⟩
  | 30 => ⟨S64512x128, .f32⟩
  | 31 => ⟨S1x128x4, .f32⟩
  | 32 => ⟨S128x4, .f32⟩
  | 33 => ⟨S64512x4, .f32⟩
  | 34 => ⟨S64512x2, .f32⟩
  | 35 => ⟨S64512x2, .i32⟩
  | 36 => ⟨S_, .f32⟩
  | 37 => ⟨S64512, .f32⟩
  | 38 => ⟨S_, .f32⟩
  | 39 => ⟨S64512, .f32⟩
  | 40 => ⟨S64512, .f32⟩
  | 41 => ⟨S64512x1, .f32⟩
  | 42 => ⟨S64512x2, .f32⟩
  | 43 => ⟨S64512x2, .f32⟩
  | 44 => ⟨S64512x2, .f32⟩
  | 45 => ⟨S_, .f32⟩
  | 46 => ⟨S64512, .f32⟩
  | 47 => ⟨S64512x1, .f32⟩
  | 48 => ⟨S64512x2, .f32⟩
  | 49 => ⟨S64512x2, .f32⟩
  | 50 => ⟨S_, .f32⟩
  | 51 => ⟨S64512x4, .f32⟩
  | 52 => ⟨S64512x1, .i32⟩
  | 53 => ⟨S_, .i32⟩
  | 54 => ⟨S64512x1, .i32⟩
  | 55 => ⟨S64512x1, .i1⟩
  | 56 => ⟨S_, .i32⟩
  | 57 => ⟨S64512x1, .i32⟩
  | 58 => ⟨S64512x1, .i32⟩
  | 59 => ⟨S64512x1, .i32⟩
  | 60 => ⟨S_, .i32⟩
  | 61 => ⟨S64512x2, .i32⟩
  | 62 => ⟨S64512x2, .i1⟩
  | 63 => ⟨S_, .i32⟩
  | 64 => ⟨S64512x2, .i32⟩
  | 65 => ⟨S64512x2, .i32⟩
  | 66 => ⟨S64512x2, .i32⟩
  | 67 => ⟨S64512x2, .i32⟩
  | 68 => ⟨S64512x2x1, .i32⟩
  | 69 => ⟨S64512x2x1, .i32⟩
  | 70 => ⟨S64512x2x2, .i32⟩
  | 71 => ⟨S64512x4, .f32⟩
  | 72 => ⟨S_, .f32⟩
  | 73 => ⟨S64512x128, .f32⟩
  | 74 => ⟨S1x1x128x256, .f32⟩
  | 75 => ⟨S128x256, .f32⟩
  | 76 => ⟨S64512x256, .f32⟩
  | 77 => ⟨S1x1x256, .f32⟩
  | 78 => ⟨S256, .f32⟩
  | 79 => ⟨S1x256, .f32⟩
  | 80 => ⟨S64512x256, .f32⟩
  | 81 => ⟨S64512x256, .f32⟩
  | 82 => ⟨S_, .f32⟩
  | 83 => ⟨S64512x256, .f32⟩
  | 84 => ⟨S64512x256, .f32⟩
  | 85 => ⟨S64512x1, .f32⟩
  | 86 => ⟨S1x1x256x128, .f32⟩
  | 87 => ⟨S256x128, .f32⟩
  | 88 => ⟨S64512x128, .f32⟩
  | 89 => ⟨S1x1x128, .f32⟩
  | 90 => ⟨S128, .f32⟩
  | 91 => ⟨S1x128, .f32⟩
  | 92 => ⟨S64512x128, .f32⟩
  | 93 => ⟨S64512x128, .f32⟩
  | 94 => ⟨S64512x128, .f32⟩
  | 95 => ⟨S64512x128, .f32⟩
  | 96 => ⟨S64512x128, .f32⟩
  | 97 => ⟨S1x1x128x256, .f32⟩
  | 98 => ⟨S128x256, .f32⟩
  | 99 => ⟨S64512x256, .f32⟩
  | 100 => ⟨S1x1x256, .f32⟩
  | 101 => ⟨S256, .f32⟩
  | 102 => ⟨S1x256, .f32⟩
  | 103 => ⟨S64512x256, .f32⟩
  | 104 => ⟨S64512x256, .f32⟩
  | 105 => ⟨S_, .f32⟩
  | 106 => ⟨S64512x256, .f32⟩
  | 107 => ⟨S64512x256, .f32⟩
  | 108 => ⟨S64512x1, .f32⟩
  | 109 => ⟨S1x1x256x128, .f32⟩
  | 110 => ⟨S256x128, .f32⟩
  | 111 => ⟨S64512x128, .f32⟩
  | 112 => ⟨S1x1x128, .f32⟩
  | 113 => ⟨S128, .f32⟩
  | 114 => ⟨S1x128, .f32⟩
  | 115 => ⟨S64512x128, .f32⟩
  | 116 => ⟨S64512x128, .f32⟩
  | 117 => ⟨S64512x128, .f32⟩
  | 118 => ⟨S64512x128, .f32⟩
  | 119 => ⟨S64512x128, .f32⟩
  | 120 => ⟨S1x1x128x256, .f32⟩
  | 121 => ⟨S128x256, .f32⟩
  | 122 => ⟨S64512x256, .f32⟩
  | 123 => ⟨S1x1x256, .f32⟩
  | 124 => ⟨S256, .f32⟩
  | 125 => ⟨S1x256, .f32⟩
  | 126 => ⟨S64512x256, .f32⟩
  | 127 => ⟨S64512x256, .f32⟩
  | _ => ⟨S32x96, .f32⟩

abbrev hbmTy0_1 (i : Nat) : BufTy := match i % 128 with
  | 0 => ⟨S_, .f32⟩
  | 1 => ⟨S64512x256, .f32⟩
  | 2 => ⟨S64512x256, .f32⟩
  | 3 => ⟨S64512x1, .f32⟩
  | 4 => ⟨S1x1x256x128, .f32⟩
  | 5 => ⟨S256x128, .f32⟩
  | 6 => ⟨S64512x128, .f32⟩
  | 7 => ⟨S1x1x128, .f32⟩
  | 8 => ⟨S128, .f32⟩
  | 9 => ⟨S1x128, .f32⟩
  | 10 => ⟨S64512x128, .f32⟩
  | 11 => ⟨S64512x128, .f32⟩
  | 12 => ⟨S64512x128, .f32⟩
  | 13 => ⟨S64512x128, .f32⟩
  | 14 => ⟨S64512x128, .f32⟩
  | 15 => ⟨S1x1x128x256, .f32⟩
  | 16 => ⟨S128x256, .f32⟩
  | 17 => ⟨S64512x256, .f32⟩
  | 18 => ⟨S1x1x256, .f32⟩
  | 19 => ⟨S256, .f32⟩
  | 20 => ⟨S1x256, .f32⟩
  | 21 => ⟨S64512x256, .f32⟩
  | 22 => ⟨S64512x256, .f32⟩
  | 23 => ⟨S_, .f32⟩
  | 24 => ⟨S64512x256, .f32⟩
  | 25 => ⟨S64512x256, .f32⟩
  | 26 => ⟨S64512x1, .f32⟩
  | 27 => ⟨S1x1x256x128, .f32⟩
  | 28 => ⟨S256x128, .f32⟩
  | 29 => ⟨S64512x128, .f32⟩
  | 30 => ⟨S1x1x128, .f32⟩
  | 31 => ⟨S128, .f32⟩
  | 32 => ⟨S1x128, .f32⟩
  | 33 => ⟨S64512x128, .f32⟩
  | 34 => ⟨S64512x128, .f32⟩
  | 35 => ⟨S64512x128, .f32⟩
  | 36 => ⟨S64512x128, .f32⟩
  | 37 => ⟨S64512x128, .f32⟩
  | 38 => ⟨S32x96x21x128, .f32⟩
  | 39 => ⟨S32x96x21x128, .f32⟩
  | 40 => ⟨S64512x128, .f32⟩
  | 41 => ⟨S1x128x4, .f32⟩
  | 42 => ⟨S128x4, .f32⟩
  | 43 => ⟨S64512x4, .f32⟩
  | 44 => ⟨S64512x2, .f32⟩
  | 45 => ⟨S64512x2, .i32⟩
  | 46 => ⟨S_, .f32⟩
  | 47 => ⟨S64512, .f32⟩
  | 48 => ⟨S_, .f32⟩
  | 49 => ⟨S64512, .f32⟩
  | 50 => ⟨S64512, .f32⟩
  | 51 => ⟨S64512x1, .f32⟩
  | 52 => ⟨S64512x2, .f32⟩
  | 53 => ⟨S64512x2, .f32⟩
  | 54 => ⟨S64512x2, .f32⟩
  | 55 => ⟨S_, .f32⟩
  | 56 => ⟨S64512, .f32⟩
  | 57 => ⟨S64512x1, .f32⟩
  | 58 => ⟨S64512x2, .f32⟩
  | 59 => ⟨S64512x2, .f32⟩
  | 60 => ⟨S_, .f32⟩
  | 61 => ⟨S64512x4, .f32⟩
  | 62 => ⟨S64512x1, .i32⟩
  | 63 => ⟨S_, .i32⟩
  | 64 => ⟨S64512x1, .i32⟩
  | 65 => ⟨S64512x1, .i1⟩
  | 66 => ⟨S_, .i32⟩
  | 67 => ⟨S64512x1, .i32⟩
  | 68 => ⟨S64512x1, .i32⟩
  | 69 => ⟨S64512x1, .i32⟩
  | 70 => ⟨S_, .i32⟩
  | 71 => ⟨S64512x2, .i32⟩
  | 72 => ⟨S64512x2, .i1⟩
  | 73 => ⟨S_, .i32⟩
  | 74 => ⟨S64512x2, .i32⟩
  | 75 => ⟨S64512x2, .i32⟩
  | 76 => ⟨S64512x2, .i32⟩
  | 77 => ⟨S64512x2, .i32⟩
  | 78 => ⟨S64512x2x1, .i32⟩
  | 79 => ⟨S64512x2x1, .i32⟩
  | 80 => ⟨S64512x2x2, .i32⟩
  | 81 => ⟨S64512x4, .f32⟩
  | 82 => ⟨S_, .f32⟩
  | 83 => ⟨S64512x128, .f32⟩
  | 84 => ⟨S1x1x128x256, .f32⟩
  | 85 => ⟨S128x256, .f32⟩
  | 86 => ⟨S64512x256, .f32⟩
  | 87 => ⟨S1x1x256, .f32⟩
  | 88 => ⟨S256, .f32⟩
  | 89 => ⟨S1x256, .f32⟩
  | 90 => ⟨S64512x256, .f32⟩
  | 91 => ⟨S64512x256, .f32⟩
  | 92 => ⟨S_, .f32⟩
  | 93 => ⟨S64512x256, .f32⟩
  | 94 => ⟨S64512x256, .f32⟩
  | 95 => ⟨S64512x1, .f32⟩
  | 96 => ⟨S1x1x256x128, .f32⟩
  | 97 => ⟨S256x128, .f32⟩
  | 98 => ⟨S64512x128, .f32⟩
  | 99 => ⟨S1x1x128, .f32⟩
  | 100 => ⟨S128, .f32⟩
  | 101 => ⟨S1x128, .f32⟩
  | 102 => ⟨S64512x128, .f32⟩
  | 103 => ⟨S64512x128, .f32⟩
  | 104 => ⟨S64512x128, .f32⟩
  | 105 => ⟨S64512x128, .f32⟩
  | 106 => ⟨S64512x128, .f32⟩
  | 107 => ⟨S1x1x128x256, .f32⟩
  | 108 => ⟨S128x256, .f32⟩
  | 109 => ⟨S64512x256, .f32⟩
  | 110 => ⟨S1x1x256, .f32⟩
  | 111 => ⟨S256, .f32⟩
  | 112 => ⟨S1x256, .f32⟩
  | 113 => ⟨S64512x256, .f32⟩
  | 114 => ⟨S64512x256, .f32⟩
  | 115 => ⟨S_, .f32⟩
  | 116 => ⟨S64512x256, .f32⟩
  | 117 => ⟨S64512x256, .f32⟩
  | 118 => ⟨S64512x1, .f32⟩
  | 119 => ⟨S1x1x256x128, .f32⟩
  | 120 => ⟨S256x128, .f32⟩
  | 121 => ⟨S64512x128, .f32⟩
  | 122 => ⟨S1x1x128, .f32⟩
  | 123 => ⟨S128, .f32⟩
  | 124 => ⟨S1x128, .f32⟩
  | 125 => ⟨S64512x128, .f32⟩
  | 126 => ⟨S64512x128, .f32⟩
  | 127 => ⟨S64512x128, .f32⟩
  | _ => ⟨S32x96, .f32⟩

abbrev hbmTy0_2 (i : Nat) : BufTy := match i % 128 with
  | 0 => ⟨S64512x128, .f32⟩
  | 1 => ⟨S64512x128, .f32⟩
  | 2 => ⟨S1x1x128x256, .f32⟩
  | 3 => ⟨S128x256, .f32⟩
  | 4 => ⟨S64512x256, .f32⟩
  | 5 => ⟨S1x1x256, .f32⟩
  | 6 => ⟨S256, .f32⟩
  | 7 => ⟨S1x256, .f32⟩
  | 8 => ⟨S64512x256, .f32⟩
  | 9 => ⟨S64512x256, .f32⟩
  | 10 => ⟨S_, .f32⟩
  | 11 => ⟨S64512x256, .f32⟩
  | 12 => ⟨S64512x256, .f32⟩
  | 13 => ⟨S64512x1, .f32⟩
  | 14 => ⟨S1x1x256x128, .f32⟩
  | 15 => ⟨S256x128, .f32⟩
  | 16 => ⟨S64512x128, .f32⟩
  | 17 => ⟨S1x1x128, .f32⟩
  | 18 => ⟨S128, .f32⟩
  | 19 => ⟨S1x128, .f32⟩
  | 20 => ⟨S64512x128, .f32⟩
  | 21 => ⟨S64512x128, .f32⟩
  | 22 => ⟨S64512x128, .f32⟩
  | 23 => ⟨S64512x128, .f32⟩
  | 24 => ⟨S64512x128, .f32⟩
  | 25 => ⟨S1x1x128x256, .f32⟩
  | 26 => ⟨S128x256, .f32⟩
  | 27 => ⟨S64512x256, .f32⟩
  | 28 => ⟨S1x1x256, .f32⟩
  | 29 => ⟨S256, .f32⟩
  | 30 => ⟨S1x256, .f32⟩
  | 31 => ⟨S64512x256, .f32⟩
  | 32 => ⟨S64512x256, .f32⟩
  | 33 => ⟨S_, .f32⟩
  | 34 => ⟨S64512x256, .f32⟩
  | 35 => ⟨S64512x256, .f32⟩
  | 36 => ⟨S64512x1, .f32⟩
  | 37 => ⟨S1x1x256x128, .f32⟩
  | 38 => ⟨S256x128, .f32⟩
  | 39 => ⟨S64512x128, .f32⟩
  | 40 => ⟨S1x1x128, .f32⟩
  | 41 => ⟨S128, .f32⟩
  | 42 => ⟨S1x128, .f32⟩
  | 43 => ⟨S64512x128, .f32⟩
  | 44 => ⟨S64512x128, .f32⟩
  | 45 => ⟨S64512x128, .f32⟩
  | 46 => ⟨S64512x128, .f32⟩
  | 47 => ⟨S64512x128, .f32⟩
  | 48 => ⟨S32x96x21x128, .f32⟩
  | 49 => ⟨S32x96x21x128, .f32⟩
  | 50 => ⟨S32x21x96x128, .f32⟩
  | 51 => ⟨S_, .f32⟩
  | 52 => ⟨S32x21x128, .f32⟩
  | 53 => ⟨S_, .f32⟩
  | 54 => ⟨S32x21x128, .f32⟩
  | 55 => ⟨S32x21x128, .f32⟩
  | 56 => ⟨S32x21x1x128, .f32⟩
  | 57 => ⟨S32x21x96x128, .f32⟩
  | 58 => ⟨S32x1x96x1, .f32⟩
  | 59 => ⟨S32x21x96x1, .f32⟩
  | 60 => ⟨S32x21x96x1, .f32⟩
  | 61 => ⟨S1x1x1x1, .f32⟩
  | 62 => ⟨S32x21x96x1, .f32⟩
  | 63 => ⟨S32x21x96x1, .f32⟩
  | 64 => ⟨S32x21x96x127, .f32⟩
  | 65 => ⟨S1x1x1x127, .f32⟩
  | 66 => ⟨S32x21x96x127, .f32⟩
  | 67 => ⟨S32x21x96x127, .f32⟩
  | 68 => ⟨S32x21x96x127, .f32⟩
  | 69 => ⟨S32x21x96x128, .f32⟩
  | 70 => ⟨S32x21x96x256, .f32⟩
  | 71 => ⟨S32x21x96x128, .f32⟩
  | 72 => ⟨S1x1x1x128, .f32⟩
  | 73 => ⟨S32x21x96x128, .f32⟩
  | 74 => ⟨S32x21x96x128, .f32⟩
  | 75 => ⟨S_, .f32⟩
  | 76 => ⟨S32x21x96x128, .f32⟩
  | 77 => ⟨S32x21x96x128, .f32⟩
  | 78 => ⟨S32x21x96x128, .f32⟩
  | 79 => ⟨S1x1x1x128, .f32⟩
  | 80 => ⟨S32x21x96x128, .f32⟩
  | 81 => ⟨S32x21x96x128, .f32⟩
  | 82 => ⟨S_, .f32⟩
  | 83 => ⟨S32x21x96x128, .f32⟩
  | 84 => ⟨S32x21x96x128, .f32⟩
  | 85 => ⟨S32x21x96x1, .f32⟩
  | 86 => ⟨S1x1x1x1, .f32⟩
  | 87 => ⟨S32x21x96x1, .f32⟩
  | 88 => ⟨S32x21x96x1, .f32⟩
  | 89 => ⟨S32x21x96, .f32⟩
  | 90 => ⟨S32x96x21, .f32⟩
  | 91 => ⟨S1x32x96x21, .f32⟩
  | _ => ⟨S32x96, .f32⟩

abbrev hbmTy (i : Nat) : BufTy := match i / 128 with
  | 0 => hbmTy0_0 i
  | 1 => hbmTy0_1 i
  | 2 => hbmTy0_2 i
  | _ => ⟨S32x96, .f32⟩

abbrev bufTy : (tb : Table) → Fin (tcTables nBuf tb) → BufTy
  | .hbm, ⟨i, _⟩ => hbmTy i
  | _, _ => ⟨S32x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_values : Ref sig .tc := ⟨.hbm, 34, rfl⟩
abbrev main_indices : Ref sig .tc := ⟨.hbm, 35, rfl⟩
abbrev main_cst_0 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_c : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call0_cst : Ref sig .tc := ⟨.hbm, 82, rfl⟩
abbrev main_call0_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call1_cst : Ref sig .tc := ⟨.hbm, 105, rfl⟩
abbrev main_call1_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call2_cst : Ref sig .tc := ⟨.hbm, 128, rfl⟩
abbrev main_call2_v0 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call3_cst : Ref sig .tc := ⟨.hbm, 151, rfl⟩
abbrev main_call3_v0 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_values_8 : Ref sig .tc := ⟨.hbm, 172, rfl⟩
abbrev main_indices_9 : Ref sig .tc := ⟨.hbm, 173, rfl⟩
abbrev main_cst_10 : Ref sig .tc := ⟨.hbm, 174, rfl⟩
abbrev main_v131 : Ref sig .tc := ⟨.hbm, 175, rfl⟩
abbrev main_cst_11 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_12 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_13 : Ref sig .tc := ⟨.hbm, 188, rfl⟩
abbrev main_v142 : Ref sig .tc := ⟨.hbm, 189, rfl⟩
abbrev main_v143 : Ref sig .tc := ⟨.hbm, 190, rfl⟩
abbrev main_c_14 : Ref sig .tc := ⟨.hbm, 191, rfl⟩
abbrev main_v144 : Ref sig .tc := ⟨.hbm, 192, rfl⟩
abbrev main_v145 : Ref sig .tc := ⟨.hbm, 193, rfl⟩
abbrev main_c_15 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_c_16 : Ref sig .tc := ⟨.hbm, 198, rfl⟩
abbrev main_v149 : Ref sig .tc := ⟨.hbm, 199, rfl⟩
abbrev main_v150 : Ref sig .tc := ⟨.hbm, 200, rfl⟩
abbrev main_c_17 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_18 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_call4_cst : Ref sig .tc := ⟨.hbm, 220, rfl⟩
abbrev main_call4_v0 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_call5_cst : Ref sig .tc := ⟨.hbm, 243, rfl⟩
abbrev main_call5_v0 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_call6_cst : Ref sig .tc := ⟨.hbm, 266, rfl⟩
abbrev main_call6_v0 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_call7_cst : Ref sig .tc := ⟨.hbm, 289, rfl⟩
abbrev main_call7_v0 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_cst_19 : Ref sig .tc := ⟨.hbm, 307, rfl⟩
abbrev main_v247 : Ref sig .tc := ⟨.hbm, 308, rfl⟩
abbrev main_cst_20 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_call8_cst : Ref sig .tc := ⟨.hbm, 331, rfl⟩
abbrev main_call8_v0 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_call9_cst : Ref sig .tc := ⟨.hbm, 338, rfl⟩
abbrev main_call9_v0 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩

abbrev nD : Nat := 1
abbrev τ : Topo := Topo.v7x

variable {F : FTy → Type} [FloatOps F]
-- ==== Proof.Consts.lean ====
module

public import Idealize.ShloMosaic.PureOps
public import Idealize.ShloMosaic.Lib.ValueIdx

/-! What the literals of the two programs denote at the extended reals, each stated once. -/

@[expose] public section

namespace Cert.Moe

open Idealize.ShloMosaic

/-- The literal zero is the number 0. -/
theorem lit_zero : (FloatOps.ofBits .f32 0x00000000#32 : Ideal .f32) = (0 : EReal) := by
  show Ideal.ofBits .f32 0x00000000#32 = 0
  simp [Ideal.ofBits, Ideal.ieee, -EReal.coe_mul]

/-- The literal one is the number 1. -/
theorem lit_one : (FloatOps.ofBits .f32 0x3F800000#32 : Ideal .f32) = (1 : EReal) := by
  show Ideal.ofBits .f32 0x3F800000#32 = 1
  simp [Ideal.ofBits, Ideal.ieee, -EReal.coe_mul]; norm_num

/-- The literal minus infinity is the least extended real. -/
theorem lit_bot : (FloatOps.ofBits .f32 0xFF800000#32 : Ideal .f32) = (⊥ : EReal) := by
  show Ideal.ofBits .f32 0xFF800000#32 = ⊥
  simp [Ideal.ofBits, Ideal.ieee, -EReal.coe_mul]

/-- The literal 96, the number of positions a mean is taken over. -/
theorem lit_ninetysix : (FloatOps.ofBits .f32 0x42C00000#32 : Ideal .f32) = ((96 : ℝ) : EReal) := by
  show Ideal.ofBits .f32 0x42C00000#32 = _
  simp [Ideal.ofBits, Ideal.ieee, -EReal.coe_mul]; norm_num

/-- The literal 10000, the bound the precondition puts on an entry. -/
theorem lit_bound : (FloatOps.ofBits .f32 0x461C4000#32 : Ideal .f32) = ((10000 : ℝ) : EReal) := by
  show Ideal.ofBits .f32 0x461C4000#32 = _
  simp [Ideal.ofBits, Ideal.ieee, -EReal.coe_mul]; norm_num

/-- The number the kernel writes over a score it has already chosen: the single-precision value nearest −10³⁰. -/
noncomputable def masked : EReal := FloatOps.ofBits (F := Ideal) .f32 0xF149F2CA#32

/-- The masking number lies below −10²⁹. -/
theorem masked_lt : masked < ((-100000000000000000000000000000 : ℝ) : EReal) := by
  show Ideal.ofBits .f32 0xF149F2CA#32 < _
  simp [Ideal.ofBits, Ideal.ieee, -EReal.coe_mul, -EReal.coe_neg]
  norm_num

end Cert.Moe
-- ==== Proof.Spec.lean ====
module

public import proofs.«01_k».proof.Proof.Consts

/-! The mathematics both programs are read as: a token, its four scores, the two chosen experts and their weights, one
mixture layer, the mean over positions, the time embedding and the decoder, each over plain functions of indices. -/

@[expose] public section

namespace Cert.Moe

open Idealize.ShloMosaic

/-- `i` is the expert of greatest score, the lowest-numbered one where several share it. -/
def IsFirst (l : Fin 4 → EReal) (i : Fin 4) : Prop := ∀ j, l j ≤ l i ∧ (j < i → l j < l i)

/-- `i₂` is the expert of greatest score among those other than `i₁`, the lowest-numbered one where several share it. -/
def IsSecond (l : Fin 4 → EReal) (i₁ i₂ : Fin 4) : Prop := i₂ ≠ i₁ ∧ ∀ j, j ≠ i₁ → l j ≤ l i₂ ∧ (j < i₂ → l j < l i₂)

/-- A set of experts that is not empty holds one of greatest score and, among those, of lowest number. -/
theorem exists_best (l : Fin 4 → EReal) (s : Finset (Fin 4)) (hs : s.Nonempty) :
    ∃ i ∈ s, ∀ j ∈ s, l j ≤ l i ∧ (j < i → l j < l i) := by
  obtain ⟨b, hb, hmax⟩ := s.exists_max_image l hs
  obtain ⟨i, hi, hmin⟩ := (s.filter fun j => l j = l b).exists_min_image id ⟨b, by simp [hb]⟩
  simp only [Finset.mem_filter, id] at hi hmin
  refine ⟨i, hi.1, fun j hj => ⟨hi.2 ▸ hmax j hj, fun hji => lt_of_le_of_ne (hi.2 ▸ hmax j hj) fun he => ?_⟩⟩
  exact absurd (hmin j ⟨hj, he.trans hi.2⟩) (not_le.mpr hji)

/-- There is a first choice. -/
theorem exists_first (l : Fin 4 → EReal) : ∃ i, IsFirst l i := by
  obtain ⟨i, _, h⟩ := exists_best l Finset.univ Finset.univ_nonempty
  exact ⟨i, fun j => h j (Finset.mem_univ j)⟩

/-- There is a second choice, whatever the first. -/
theorem exists_second (l : Fin 4 → EReal) (i₁ : Fin 4) : ∃ i₂, IsSecond l i₁ i₂ := by
  obtain ⟨i, hi, h⟩ := exists_best l (Finset.univ.erase i₁)
    (Finset.card_pos.mp (by rw [Finset.card_erase_of_mem (Finset.mem_univ _)]; decide))
  exact ⟨i, Finset.ne_of_mem_erase hi, fun j hj => h j (by simp [hj])⟩

/-- The first choice. -/
noncomputable def first (l : Fin 4 → EReal) : Fin 4 := (exists_first l).choose

theorem first_spec (l : Fin 4 → EReal) : IsFirst l (first l) := (exists_first l).choose_spec

/-- The second choice. -/
noncomputable def second (l : Fin 4 → EReal) : Fin 4 := (exists_second l (first l)).choose

theorem second_spec (l : Fin 4 → EReal) : IsSecond l (first l) (second l) := (exists_second l (first l)).choose_spec

/-- How much less the second choice weighs than the first: the exponential of the difference of their scores. -/
noncomputable def ratio (l : Fin 4 → EReal) : EReal := Ideal.exp (l (second l) - l (first l))

/-- The weight of expert `e`: the two choices share 1 as the softmax of their scores, every other expert weighs 0. -/
noncomputable def gate (l : Fin 4 → EReal) (e : Fin 4) : EReal :=
  if e = first l then Ideal.div 1 (1 + ratio l) else if e = second l then Ideal.div (ratio l) (1 + ratio l) else 0

/-- The token an observed number makes. -/
noncomputable def token (W b : Fin 128 → EReal) (x : EReal) (d : Fin 128) : EReal := x * W d + b d

/-- The parameters of one mixture layer. -/
structure Layer where
  /-- the gate's matrix -/
  gw : Fin 128 → Fin 4 → EReal
  /-- each expert's first matrix -/
  w1 : Fin 4 → Fin 128 → Fin 256 → EReal
  /-- each expert's first bias -/
  b1 : Fin 4 → Fin 256 → EReal
  /-- each expert's second matrix -/
  w2 : Fin 4 → Fin 256 → Fin 128 → EReal
  /-- each expert's second bias -/
  b2 : Fin 4 → Fin 128 → EReal

namespace Layer

variable (p : Layer)

/-- A token's score for expert `e`. -/
noncomputable def score (tok : Fin 128 → EReal) (e : Fin 4) : EReal := ∑ d, tok d * p.gw d e

/-- The hidden activations of expert `e`. -/
noncomputable def hidden (tok : Fin 128 → EReal) (e : Fin 4) (h : Fin 256) : EReal :=
  max ((∑ d, tok d * p.w1 e d h) + p.b1 e h) 0

/-- What expert `e` makes of a token. -/
noncomputable def expert (tok : Fin 128 → EReal) (e : Fin 4) (d : Fin 128) : EReal :=
  (∑ h, p.hidden tok e h * p.w2 e h d) + p.b2 e d

/-- The layer: the token plus the weighted sum of what the experts make of it. -/
noncomputable def run (tok : Fin 128 → EReal) (d : Fin 128) : EReal :=
  tok d + (((gate (p.score tok) 0 * p.expert tok 0 d + gate (p.score tok) 1 * p.expert tok 1 d)
    + gate (p.score tok) 2 * p.expert tok 2 d) + gate (p.score tok) 3 * p.expert tok 3 d)

end Layer

/-- The mean of a variable's 96 positions. -/
noncomputable def mean (f : Fin 96 → Fin 128 → EReal) (d : Fin 128) : EReal := (∑ s, f s d) * ((96⁻¹ : ℝ) : EReal)

/-- The time embedding: a line in coordinate 0, sines in the 127 others. -/
noncomputable def embed (sw sb : EReal) (pw pb : Fin 127 → EReal) (t : EReal) (d : Fin 128) : EReal :=
  if h : d.val = 0 then t * sw + sb
  else Ideal.sin (t * pw ⟨d.val - 1, by omega⟩ + pb ⟨d.val - 1, by omega⟩)

/-- The decoder's three layers on the mean and the time embedding side by side. -/
noncomputable def decode (w1 : Fin 256 → Fin 128 → EReal) (b1 : Fin 128 → EReal) (w2 : Fin 128 → Fin 128 → EReal)
    (b2 : Fin 128 → EReal) (w3 : Fin 128 → EReal) (b3 : EReal) (u v : Fin 128 → EReal) : EReal :=
  (∑ k, max ((∑ j, max ((∑ i : Fin 256, (if h : i.val < 128 then u ⟨i.val, h⟩ else v ⟨i.val - 128, by omega⟩) * w1 i j)
    + b1 j) 0 * w2 j k) + b2 k) 0 * w3 k) + b3

end Cert.Moe
-- ==== Proof.Bounds.lean ====
module

public import proofs.«01_k».proof.Proof.Spec

/-! How large a score can get. Where the observed number and every parameter lie between −10000 and 10000, the scores of
both layers are real numbers above the kernel's masking number. -/

@[expose] public section

namespace Cert.Moe

open Idealize.ShloMosaic

/-- `a` is a real number of absolute value at most `B`. -/
def Within (B : ℝ) (a : EReal) : Prop := ∃ r : ℝ, a = (r : EReal) ∧ |r| ≤ B

namespace Within

variable {A B : ℝ} {a b : EReal}

theorem mono (h : Within A a) (hAB : A ≤ B) : Within B a := by
  obtain ⟨r, rfl, hr⟩ := h
  exact ⟨r, rfl, hr.trans hAB⟩

theorem nonneg (h : Within A a) : 0 ≤ A := by
  obtain ⟨r, _, hr⟩ := h
  exact (abs_nonneg r).trans hr

theorem zero : Within 0 0 := ⟨0, rfl, by simp⟩

theorem add (ha : Within A a) (hb : Within B b) : Within (A + B) (a + b) := by
  obtain ⟨r, rfl, hr⟩ := ha
  obtain ⟨q, rfl, hq⟩ := hb
  exact ⟨r + q, (EReal.coe_add r q).symm, (abs_add_le r q).trans (add_le_add hr hq)⟩

theorem mul (ha : Within A a) (hb : Within B b) : Within (A * B) (a * b) := by
  have hA := ha.nonneg
  obtain ⟨r, rfl, hr⟩ := ha
  obtain ⟨q, rfl, hq⟩ := hb
  exact ⟨r * q, (EReal.coe_mul r q).symm, by rw [abs_mul]; exact mul_le_mul hr hq (abs_nonneg q) hA⟩

theorem relu (ha : Within A a) : Within A (max a 0) := by
  obtain ⟨r, rfl, hr⟩ := ha
  refine ⟨max r 0, ?_, ?_⟩
  · exact (EReal.coe_strictMono.monotone.map_max).symm
  · rw [abs_of_nonneg (le_max_right r 0)]
    exact max_le ((le_abs_self r).trans hr) ((abs_nonneg r).trans hr)

/-- A sum of `n` terms. -/
theorem sum {n : ℕ} {f : Fin n → EReal} (h : ∀ i, Within A (f i)) : Within (n * A) (∑ i, f i) := by
  choose r hr hA using h
  refine ⟨∑ i, r i, ?_, ?_⟩
  · rw [Finset.sum_congr rfl fun i _ => hr i]
    exact (map_sum (⟨⟨Real.toEReal, EReal.coe_zero⟩, EReal.coe_add⟩ : ℝ →+ EReal) r Finset.univ).symm
  · refine (Finset.abs_sum_le_sum_abs _ _).trans ((Finset.sum_le_sum fun i _ => hA i).trans ?_)
    simp

/-- A real number of absolute value at most 10²⁹ lies above the masking number. -/
theorem masked_lt (h : Within 100000000000000000000000000000 a) : masked < a := by
  obtain ⟨r, rfl, hr⟩ := h
  exact Moe.masked_lt.trans_le (EReal.coe_le_coe_iff.mpr (abs_le.mp hr).1)

end Within

/-- Between real scores the second choice's ratio is a positive real number. -/
theorem ratio_real {l : Fin 4 → EReal} {B : ℝ} (h : ∀ e, Within B (l e)) : ∃ r : ℝ, 0 < r ∧ ratio l = (r : EReal) := by
  obtain ⟨a, ha, _⟩ := h (second l)
  obtain ⟨b, hb, _⟩ := h (first l)
  refine ⟨Real.exp (a - b), Real.exp_pos _, ?_⟩
  unfold ratio
  rw [ha, hb, ← EReal.coe_sub]
  rfl

/-- Over a sum with 1, a division of reals is the reals' division. -/
theorem div_one_add {r : ℝ} (hr : 0 < r) (c : ℝ) : Ideal.div (c : EReal) (1 + (r : EReal)) = ((c / (1 + r) : ℝ) : EReal) := by
  have h1 : (1 + (r : EReal)) = ((1 + r : ℝ) : EReal) := by rw [EReal.coe_add]; rfl
  have h0 : (1 + r : ℝ) ≠ 0 := by positivity
  rw [h1, Ideal.div_coe h0, ← EReal.coe_mul, mul_one_div]

/-- A weight is a real number between −1 and 1. -/
theorem gate_within {l : Fin 4 → EReal} {B : ℝ} (h : ∀ e, Within B (l e)) (e : Fin 4) : Within 1 (gate l e) := by
  obtain ⟨r, hr, hl⟩ := ratio_real h
  unfold gate
  rw [hl]
  have hone : (1 : EReal) = ((1 : ℝ) : EReal) := rfl
  split_ifs
  · have := div_one_add hr 1
    rw [← hone] at this
    refine ⟨1 / (1 + r), this, ?_⟩
    rw [abs_of_pos (by positivity), div_le_one (by positivity)]
    linarith
  · refine ⟨r / (1 + r), div_one_add hr r, ?_⟩
    rw [abs_of_pos (by positivity), div_le_one (by positivity)]
    linarith
  · exact Within.zero.mono zero_le_one

/-- Every parameter of the layer lies between −10000 and 10000. -/
structure Layer.Bounded (p : Layer) : Prop where
  gw : ∀ d e, Within 10000 (p.gw d e)
  w1 : ∀ e d h, Within 10000 (p.w1 e d h)
  b1 : ∀ e h, Within 10000 (p.b1 e h)
  w2 : ∀ e h d, Within 10000 (p.w2 e h d)
  b2 : ∀ e d, Within 10000 (p.b2 e d)

namespace Layer.Bounded

variable {p : Layer} (hp : p.Bounded) {tok : Fin 128 → EReal} {B : ℝ} (ht : ∀ d, Within B (tok d))
include hp ht

theorem score (e : Fin 4) : Within (128 * (B * 10000)) (p.score tok e) :=
  (Within.sum fun d => (ht d).mul (hp.gw d e)).mono (by norm_num)

theorem hidden (e : Fin 4) (h : Fin 256) : Within (128 * (B * 10000) + 10000) (p.hidden tok e h) :=
  (((Within.sum fun d => (ht d).mul (hp.w1 e d h)).mono (by norm_num)).add (hp.b1 e h)).relu

theorem expert (e : Fin 4) (d : Fin 128) :
    Within (256 * ((128 * (B * 10000) + 10000) * 10000) + 10000) (p.expert tok e d) :=
  ((Within.sum fun h => (hp.hidden ht e h).mul (hp.w2 e h d)).mono (by norm_num)).add (hp.b2 e d)

theorem run (d : Fin 128) :
    Within (B + 4 * (256 * ((128 * (B * 10000) + 10000) * 10000) + 10000)) (p.run tok d) := by
  have hg := fun e => (gate_within (hp.score ht) e).mul (hp.expert ht e d)
  exact ((ht d).add ((((hg 0).add (hg 1)).add (hg 2)).add (hg 3))).mono (by linarith)

end Layer.Bounded

/-- A token made of bounded numbers. -/
theorem token_within {W b : Fin 128 → EReal} {x : EReal} (hx : Within 10000 x) (hW : ∀ d, Within 10000 (W d))
    (hb : ∀ d, Within 10000 (b d)) (d : Fin 128) : Within 100010000 (token W b x d) :=
  ((hx.mul (hW d)).add (hb d)).mono (by norm_num)

/-- The first layer's scores are real numbers of absolute value at most 10²⁹. -/
theorem score_first {W b : Fin 128 → EReal} {x : EReal} (hx : Within 10000 x) (hW : ∀ d, Within 10000 (W d))
    (hb : ∀ d, Within 10000 (b d)) {p : Layer} (hp : p.Bounded) (e : Fin 4) :
    Within 100000000000000000000000000000 (p.score (token W b x) e) :=
  (hp.score (token_within hx hW hb) e).mono (by norm_num)

/-- So are the second layer's. -/
theorem score_second {W b : Fin 128 → EReal} {x : EReal} (hx : Within 10000 x) (hW : ∀ d, Within 10000 (W d))
    (hb : ∀ d, Within 10000 (b d)) {p q : Layer} (hp : p.Bounded) (hq : q.Bounded) (e : Fin 4) :
    Within 100000000000000000000000000000 (q.score (p.run (token W b x)) e) :=
  (hq.score (hp.run (token_within hx hW hb)) e).mono (by norm_num)

end Cert.Moe
-- ==== Proof.Answer.lean ====
module

public import Idealize.ShloMosaic.Lib.ValueLayout
public import proofs.«01_k».proof.Proof.Spec
public import proofs.«01_k».proof.Proof.Bounds

/-! The answer both programs give, as a function of the argument arrays. -/

@[expose] public section

namespace Cert.Moe

open Idealize.ShloMosaic Idealize.ShloMosaic.ValueIdx

/-- An array of extended reals of the given extents. -/
abbrev Arr {n : Nat} (e : Fin n → Nat) : Type := (⟨n, e⟩ : Shape).Idx → EReal

/-- The argument arrays that the result depends on. -/
structure Args where
  /-- times to predict -/
  a0 : Arr ![32, 96]
  /-- observations -/
  a1 : Arr ![32, 72, 21]
  /-- token weights and biases -/
  a4 : Arr ![1, 128]
  a5 : Arr ![128]
  /-- the layers' score matrices, and their experts' parameters -/
  a6 : Arr ![2, 128, 4]
  a7 : Arr ![2, 4, 128, 256]
  a8 : Arr ![2, 4, 256]
  a9 : Arr ![2, 4, 256, 128]
  a10 : Arr ![2, 4, 128]
  /-- the time embedding -/
  a11 : Arr ![1, 1]
  a12 : Arr ![1]
  a13 : Arr ![1, 127]
  a14 : Arr ![127]
  /-- the decoder -/
  a15 : Arr ![256, 128]
  a16 : Arr ![128]
  a17 : Arr ![128, 128]
  a18 : Arr ![128]
  a19 : Arr ![128, 1]
  a20 : Arr ![1]

namespace Args

variable (a : Args)

/-- Variable `n` of batch element `b` at position `s`: observed for 72 positions, then zero. -/
noncomputable def series (b : Fin 32) (n : Fin 21) (s : Fin 96) : EReal :=
  if h : s.val < 72 then a.a1 (ix3 b ⟨s.val, h⟩ n) else 0

/-- The token of one value. -/
noncomputable def tok (b : Fin 32) (n : Fin 21) (s : Fin 96) : Fin 128 → EReal :=
  token (fun d => a.a4 (ix2 (0 : Fin 1) d)) (fun d => a.a5 (ix1 d)) (a.series b n s)

/-- A layer's parameters. -/
noncomputable def layer (l : Fin 2) : Layer where
  gw d e := a.a6 (ix3 l d e)
  w1 e d h := a.a7 (ix4 l e d h)
  b1 e h := a.a8 (ix3 l e h)
  w2 e h d := a.a9 (ix4 l e h d)
  b2 e d := a.a10 (ix3 l e d)

/-- A variable's summary: the mean over positions of its tokens through both layers. -/
noncomputable def summary (b : Fin 32) (n : Fin 21) : Fin 128 → EReal :=
  mean fun s => (a.layer 1).run ((a.layer 0).run (a.tok b n s))

/-- The prediction for variable `n` of batch element `b` at its time `t`. -/
noncomputable def answer (b : Fin 32) (t : Fin 96) (n : Fin 21) : EReal :=
  decode (fun i j => a.a15 (ix2 i j)) (fun j => a.a16 (ix1 j)) (fun j k => a.a17 (ix2 j k)) (fun k => a.a18 (ix1 k))
    (fun k => a.a19 (ix2 k (0 : Fin 1))) (a.a20 (ix1 (0 : Fin 1))) (a.summary b n)
    (embed (a.a11 (ix2 (0 : Fin 1) (0 : Fin 1))) (a.a12 (ix1 (0 : Fin 1))) (fun d => a.a13 (ix2 (0 : Fin 1) d)) (fun d => a.a14 (ix1 d))
      (a.a0 (ix2 b t)))

/-- The answer as the result array of both programs. -/
noncomputable def result : Arr ![1, 32, 96, 21] := fun i => a.answer (i 1) (i 2) (i 3)

/-- Every value the router depends on is within ten thousand. -/
structure Moderate : Prop where
  h1 : ∀ i, Within 10000 (a.a1 i)
  h4 : ∀ i, Within 10000 (a.a4 i)
  h5 : ∀ i, Within 10000 (a.a5 i)
  h6 : ∀ i, Within 10000 (a.a6 i)
  h7 : ∀ i, Within 10000 (a.a7 i)
  h8 : ∀ i, Within 10000 (a.a8 i)
  h9 : ∀ i, Within 10000 (a.a9 i)
  h10 : ∀ i, Within 10000 (a.a10 i)

variable {a}

theorem Moderate.series (H : a.Moderate) (b : Fin 32) (n : Fin 21) (s : Fin 96) : Within 10000 (a.series b n s) := by
  unfold Args.series
  split
  · exact H.h1 _
  · exact Within.zero.mono (by norm_num)

theorem Moderate.layer (H : a.Moderate) (l : Fin 2) : (a.layer l).Bounded :=
  ⟨fun _ _ => H.h6 _, fun _ _ _ => H.h7 _, fun _ _ => H.h8 _, fun _ _ _ => H.h9 _, fun _ _ => H.h10 _⟩

/-- The first layer's scores are moderate. -/
theorem Moderate.first (H : a.Moderate) (b : Fin 32) (n : Fin 21) (s : Fin 96) (e : Fin 4) :
    Within 100000000000000000000000000000 ((a.layer 0).score (a.tok b n s) e) :=
  score_first (H.series b n s) (fun _ => H.h4 _) (fun _ => H.h5 _) (H.layer 0) e

/-- The second layer's scores are moderate. -/
theorem Moderate.second (H : a.Moderate) (b : Fin 32) (n : Fin 21) (s : Fin 96) (e : Fin 4) :
    Within 100000000000000000000000000000 ((a.layer 1).score ((a.layer 0).run (a.tok b n s)) e) :=
  score_second (H.series b n s) (fun _ => H.h4 _) (fun _ => H.h5 _) (H.layer 0) (H.layer 1) e

end Args

end Cert.Moe
-- ==== Proof.KernelHost.lean ====
module

public import proofs.«01_k».proof.Proof.Gen.KernelIdeal.Frame

/-! The arrays the kernel finds at its launch: each is a term of the program's arguments. -/

@[expose] public section

namespace Cert.Moe

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- The observations, padded in time and in variables, variable-major, as one column per batch element. -/
theorem host_v3 : V m c main_v3 = shapeCast S32x2304x1 (pad S32x24x96 ![0, 0, 0] ![0, 3, 0] ![0, 0, 0]
    (transpose S32x21x96 [0, 2, 1] (pad S32x96x21 ![0, 0, 0] ![0, 24, 0] ![0, 0, 0] (m ((c : Thread nD τ).loc main_arg1))
      (sitofp .f32 (constantI S_ 32 0#32) : FVec Ideal S_ .f32) pads_S32x72x21_S32x96x21_000_0240_000 h_S_)
      transposes_S32x96x21_S32x21x96_0_2_1)
    (sitofp .f32 (constantI S_ 32 0#32) : FVec Ideal S_ .f32) pads_S32x21x96_S32x24x96_000_030_000 h_S_)
    shapeCasts_S32x24x96_S32x2304x1 := by
  dsimp only [V, V0, hostOps0, hostOps0_1, hostOps0_2, hostOps0_3, hostOps0_4, List.flatten_cons, List.flatten_nil, List.cons_append, List.nil_append, List.append_nil]
  after_results
  rfl

/-- The times to predict, as a column per batch element. -/
theorem host_v4 : V m c main_v4 = shapeCast S32x96x1 (m ((c : Thread nD τ).loc main_arg0)) shapeCasts_S32x96_S32x96x1 := by
  dsimp only [V, V0, hostOps0, hostOps0_1, hostOps0_2, hostOps0_3, hostOps0_4, List.flatten_cons, List.flatten_nil, List.cons_append, List.nil_append, List.append_nil]
  after_results
  rfl

set_option maxHeartbeats 4000000 in
/-- The padded router and the regrouped expert parameters. -/
theorem host_layers : V m c main_v6 = concatenate S2x128x8 2 [⟨S2x128x4, m ((c : Thread nD τ).loc main_arg6)⟩,
      ⟨S2x128x4, broadcastInDim S2x128x4 ![] bcast_S_S2x128x4 (constant S_ .f32 0x00000000#32 : FVec Ideal S_ .f32)⟩] concatenates_S2x128x4_S2x128x4_S2x128x8_d2
    ∧ V m c main_v9 = concatenate S1x8 1 [⟨S1x4, broadcastInDim S1x4 ![] bcast_S_S1x4 (constant S_ .f32 0x00000000#32 : FVec Ideal S_ .f32)⟩,
      ⟨S1x4, broadcastInDim S1x4 ![] bcast_S_S1x4 (constant S_ .f32 0xF149F2CA#32 : FVec Ideal S_ .f32)⟩] concatenates_S1x4_S1x4_S1x8_d1
    ∧ V m c main_v11 = shapeCast S2x128x1024 (transpose S2x128x4x256 [0, 2, 1, 3] (m ((c : Thread nD τ).loc main_arg7)) transposes_S2x4x128x256_S2x128x4x256_0_2_1_3)
      shapeCasts_S2x128x4x256_S2x128x1024
    ∧ V m c main_v12 = shapeCast S2x1x1024 (m ((c : Thread nD τ).loc main_arg8)) shapeCasts_S2x4x256_S2x1x1024
    ∧ V m c main_v13 = shapeCast S2x4x1x128 (m ((c : Thread nD τ).loc main_arg10)) shapeCasts_S2x4x128_S2x4x1x128 := by
  refine ⟨?_, ?_, ?_, ?_, ?_⟩
  all_goals
    dsimp only [V, V0, hostOps0, hostOps0_1, hostOps0_2, hostOps0_3, hostOps0_4, List.flatten_cons, List.flatten_nil, List.cons_append, List.nil_append, List.append_nil]
    after_results
    try rfl

set_option maxHeartbeats 4000000 in
/-- The time embedding's parameters, the biases as rows. -/
theorem host_rows : V m c main_v14 = shapeCast S1x1 (m ((c : Thread nD τ).loc main_arg12)) shapeCasts_S1_S1x1
    ∧ V m c main_v16 = concatenate S1x128 1 [⟨S1x1, broadcastInDim S1x1 ![] bcast_S_S1x1 (constant S_ .f32 0x00000000#32 : FVec Ideal S_ .f32)⟩,
      ⟨S1x127, m ((c : Thread nD τ).loc main_arg13)⟩] concatenates_S1x1_S1x127_S1x128_d1
    ∧ V m c main_v19 = concatenate S1x128 1 [⟨S1x1, broadcastInDim S1x1 ![] bcast_S_S1x1 (constant S_ .f32 0x00000000#32 : FVec Ideal S_ .f32)⟩,
      ⟨S1x127, shapeCast S1x127 (m ((c : Thread nD τ).loc main_arg14)) shapeCasts_S127_S1x127⟩] concatenates_S1x1_S1x127_S1x128_d1
    ∧ V m c main_v20 = shapeCast S1x128 (m ((c : Thread nD τ).loc main_arg16)) shapeCasts_S128_S1x128
    ∧ V m c main_v21 = shapeCast S1x128 (m ((c : Thread nD τ).loc main_arg18)) shapeCasts_S128_S1x128
    ∧ V m c main_v22 = shapeCast S1x1 (m ((c : Thread nD τ).loc main_arg20)) shapeCasts_S1_S1x1
    ∧ V m c main_v23 = shapeCast S1x128 (m ((c : Thread nD τ).loc main_arg5)) shapeCasts_S128_S1x128 := by
  refine ⟨?_, ?_, ?_, ?_, ?_, ?_, ?_⟩
  all_goals
    dsimp only [V, V0, hostOps0, hostOps0_1, hostOps0_2, hostOps0_3, hostOps0_4, List.flatten_cons, List.flatten_nil, List.cons_append, List.nil_append, List.append_nil]
    after_results
    try rfl

end Cert.Moe
-- ==== Proof.Router.lean ====
module

public import Idealize.ShloMosaic.PureOps.Reduce
public import proofs.«01_k».proof.Proof.Spec

/-! The kernel's choice of experts over eight lanes, the last four holding the masking number, against the choice of
`Spec`. Its maximum over the lanes, its lowest lane holding that maximum, and the same again with that lane masked. -/

@[expose] public section

namespace Cert.Moe

open Idealize.ShloMosaic

/-- The lowest lane of eight at which a test holds, as the minimum over the lanes of "the lane's number where the test
    holds, else 8". -/
theorem lowest_lane_bits : ∀ p0 p1 p2 p3 p4 p5 p6 p7 : Bool, ∀ i : Fin 8,
    (![p0, p1, p2, p3, p4, p5, p6, p7] : Fin 8 → Bool) i = true →
    (∀ j, j < i → (![p0, p1, p2, p3, p4, p5, p6, p7] : Fin 8 → Bool) j = false) →
    (Finset.univ : Finset (Fin 8)).fold IKind.minsi.op 2147483647#32
      (fun j => if (![p0, p1, p2, p3, p4, p5, p6, p7] : Fin 8 → Bool) j then BitVec.ofNat 32 j.val else 8#32)
      = BitVec.ofNat 32 i.val := by
  decide +kernel

/-- The same for a test given as a function of the lane. -/
theorem lowest_lane (P : Fin 8 → Bool) (i : Fin 8) (hi : P i = true) (hlt : ∀ j, j < i → P j = false) :
    (Finset.univ : Finset (Fin 8)).fold IKind.minsi.op 2147483647#32 (fun j => if P j then BitVec.ofNat 32 j.val else 8#32)
      = BitVec.ofNat 32 i.val := by
  have hP : P = ![P 0, P 1, P 2, P 3, P 4, P 5, P 6, P 7] := by
    funext j; fin_cases j <;> rfl
  have h := lowest_lane_bits (P 0) (P 1) (P 2) (P 3) (P 4) (P 5) (P 6) (P 7) i
  rw [← hP] at h
  exact h hi hlt

/-- Two lane numbers are equal as words exactly when they are equal. -/
theorem lane_word_eq : ∀ i j : Fin 8, (BitVec.ofNat 32 i.val = BitVec.ofNat 32 j.val) ↔ i = j := by decide +kernel

/-- The greatest of eight lanes, given a lane no other exceeds. -/
theorem fold_max_eq (L : Fin 8 → EReal) (i : Fin 8) (h : ∀ j, L j ≤ L i) :
    (Finset.univ : Finset (Fin 8)).fold max ⊥ L = L i :=
  le_antisymm (Finset.fold_max_le _ |>.mpr ⟨bot_le, fun j _ => h j⟩)
    (Finset.le_fold_max _ |>.mpr (Or.inr ⟨i, Finset.mem_univ i, le_rfl⟩))

/-- A row of eight lanes whose first four hold scores above the masking number and whose last four hold that number. -/
structure Lanes (L : Fin 8 → EReal) (l : Fin 4 → EReal) : Prop where
  score : ∀ e : Fin 4, L (e.castLE (by decide)) = l e
  above : ∀ e, masked < l e
  rest : ∀ j : Fin 8, 4 ≤ j.val → L j = masked

namespace Lanes

variable {L : Fin 8 → EReal} {l : Fin 4 → EReal} (h : Lanes L l)
include h

/-- Every lane is one of the four scores or holds the masking number. -/
theorem cases (j : Fin 8) : (∃ e : Fin 4, j = e.castLE (by decide) ∧ L j = l e) ∨ (4 ≤ j.val ∧ L j = masked) := by
  by_cases hj : j.val < 4
  · exact Or.inl ⟨⟨j.val, hj⟩, rfl, h.score ⟨j.val, hj⟩⟩
  · exact Or.inr ⟨by omega, h.rest j (by omega)⟩

/-- No lane exceeds that of the first choice. -/
theorem le_first (j : Fin 8) : L j ≤ L ((first l).castLE (by decide)) := by
  rw [h.score]
  rcases h.cases j with ⟨e, _, he⟩ | ⟨_, he⟩
  · exact he ▸ (first_spec l e).1
  · exact he ▸ (h.above _).le

/-- The kernel's first maximum is the first choice's score. -/
theorem max_first : (Finset.univ : Finset (Fin 8)).fold max ⊥ L = l (first l) :=
  (fold_max_eq L _ h.le_first).trans (h.score _)

/-- The kernel's first lane is the first choice. -/
theorem lane_first (M : EReal) (hM : M = l (first l)) :
    (Finset.univ : Finset (Fin 8)).fold IKind.minsi.op 2147483647#32
      (fun j => if decide (L j = M) then BitVec.ofNat 32 j.val else 8#32) = BitVec.ofNat 32 (first l).val := by
  refine lowest_lane (fun j => decide (L j = M)) ((first l).castLE (by decide)) (by simp [h.score, hM]) fun j hj => ?_
  obtain ⟨e, rfl⟩ : ∃ e : Fin 4, j = e.castLE (by decide) :=
    ⟨⟨j.val, lt_trans (Fin.lt_def.mp hj) (first l).isLt⟩, rfl⟩
  simp only [h.score, hM, decide_eq_false_iff_not]
  exact ne_of_lt ((first_spec l e).2 hj)

/-- With the first choice's lane masked: the second choice's lane holds its score. -/
theorem masked_second :
    (if ((second l).castLE (by decide) : Fin 8) = (first l).castLE (by decide) then masked else L ((second l).castLE (by decide)))
      = l (second l) := by
  rw [if_neg (fun q => (second_spec l).1 (Fin.castLE_injective _ q)), h.score]

/-- With the first choice's lane masked: no lane exceeds the second choice's, and a lower lane stays below. -/
theorem masked_le (j : Fin 8) :
    (if j = (first l).castLE (by decide) then masked else L j) ≤ l (second l)
    ∧ (j.val < (second l).val → (if j = (first l).castLE (by decide) then masked else L j) < l (second l)) := by
  by_cases hj : j = (first l).castLE (by decide)
  · rw [if_pos hj]; exact ⟨(h.above _).le, fun _ => h.above _⟩
  · rw [if_neg hj]
    rcases h.cases j with ⟨e, rfl, he⟩ | ⟨_, he⟩
    · rw [he]
      have hne : e ≠ first l := fun q => hj (by rw [q])
      exact ⟨((second_spec l).2 e hne).1, fun hlt => ((second_spec l).2 e hne).2 hlt⟩
    · rw [he]; exact ⟨(h.above _).le, fun _ => h.above _⟩

/-- The kernel's second maximum is the second choice's score. -/
theorem max_second : (Finset.univ : Finset (Fin 8)).fold max ⊥
    (fun j => if j = (first l).castLE (by decide) then masked else L j) = l (second l) := by
  rw [fold_max_eq _ ((second l).castLE (by decide)) fun j => by rw [h.masked_second]; exact (h.masked_le j).1]
  exact h.masked_second

/-- The kernel's second lane is the second choice. -/
theorem lane_second (M : EReal) (hM : M = l (second l)) :
    (Finset.univ : Finset (Fin 8)).fold IKind.minsi.op 2147483647#32
      (fun j => if decide ((if j = (first l).castLE (by decide) then masked else L j) = M) then BitVec.ofNat 32 j.val else 8#32)
      = BitVec.ofNat 32 (second l).val := by
  refine lowest_lane (fun j => decide ((if j = (first l).castLE (by decide) then masked else L j) = M))
    ((second l).castLE (by decide)) (by rw [h.masked_second, hM]; exact decide_eq_true rfl) fun j hj => ?_
  rw [hM, decide_eq_false_iff_not]
  exact ne_of_lt ((h.masked_le j).2 hj)

end Lanes

end Cert.Moe
-- ==== Proof.Reads.lean ====
module

public import Idealize.ShloMosaic.Lib.ValueLayout
public import Idealize.ShloMosaic.Lib.MatmulPlain
public import Idealize.ShloMosaic.Lib.Pipeline.Value
public import Idealize.ShloMosaic.PureOps.Ideal.Laws
public import proofs.«01_k».proof.Proof.Router

/-! Array operations read at one index, in the shapes the two programs use them at. -/

@[expose] public section

namespace Cert.Moe

open Idealize.ShloMosaic Idealize.ShloMosaic.ValueIdx

variable {α : Type}

/-- A column broadcast along rows. -/
theorem broadcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-deep rank-3 array broadcast along its first axis. -/
theorem broadcast_deep {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A one-wide middle axis broadcast. -/
theorem broadcast_mid {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A vector stood up as a column. -/
theorem cast_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_two, Shape.rowMajor_val_one]
    show p.val = p.val * 1 + u.val
    omega)

/-- A shape cast to the same shape. -/
theorem cast_same {s : Shape} (x : s.Idx → α) (h : s.ShapeCasts s) (j : s.Idx) : shapeCast s x h j = x j :=
  shapeCast_apply x h j j rfl

/-- Two leading unit axes dropped. -/
theorem cast_drop_two {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Rows `n·q + s` split over two axes. -/
theorem cast_split {n q c N : ℕ} (x : (⟨2, ![N, c]⟩ : Shape).Idx → α)
    (h : (⟨2, ![N, c]⟩ : Shape).ShapeCasts ⟨3, ![n, q, c]⟩) (i : Fin n) (s : Fin q) (k : Fin c) (r : Fin N)
    (hr : r.val = i.val * q + s.val) : shapeCast ⟨3, ![n, q, c]⟩ x h (ix3 i s k) = x (ix2 r k) :=
  shapeCast_apply x h _ _ (by
    rw [Shape.rowMajor_val_three, Shape.rowMajor_val_two]
    show r.val * c + k.val = (i.val * q + s.val) * c + k.val
    rw [hr])

/-- Two axes joined into rows `n·q + s`. -/
theorem cast_join {n q c N : ℕ} (x : (⟨3, ![n, q, c]⟩ : Shape).Idx → α)
    (h : (⟨3, ![n, q, c]⟩ : Shape).ShapeCasts ⟨2, ![N, c]⟩) (i : Fin n) (s : Fin q) (k : Fin c) (r : Fin N)
    (hr : r.val = i.val * q + s.val) : shapeCast ⟨2, ![N, c]⟩ x h (ix2 r k) = x (ix3 i s k) :=
  shapeCast_apply x h _ _ (by
    rw [Shape.rowMajor_val_three, Shape.rowMajor_val_two]
    show (i.val * q + s.val) * c + k.val = r.val * c + k.val
    rw [hr])

/-- A unit axis put between two. -/
theorem cast_mid {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- The lane number of a row's lane. -/
theorem iota_lane {a b : ℕ} (h : (⟨2, ![a, b]⟩ : Shape).Iotas .tc 32 [1]) (r : Fin a) (c : Fin b) :
    iota .tc ⟨2, ![a, b]⟩ 32 [1] h (ix2 r c) = BitVec.ofNat 32 c.val :=
  iota_single_apply _ _ _ _ _ _

/-- The index of a rank-2 array that a reduction along lanes folds over. -/
theorem lift_lane {a b : ℕ} (h : (⟨2, ![a, b]⟩ : Shape).Reduces [1] ⟨1, ![a]⟩) (r : Fin a) (c : Fin b) :
    h.lift (ix1 r) c = ix2 r c := by
  funext ax
  match ax with
  | ⟨0, _⟩ => exact Fin.ext rfl
  | ⟨1, _⟩ => exact Fin.ext rfl

/-- The index of a rank-3 array that a reduction along its middle axis folds over. -/
theorem lift_mid {a b c : ℕ} (h : (⟨3, ![a, b, c]⟩ : Shape).Reduces [1] ⟨2, ![a, c]⟩) (i : Fin a) (s : Fin b) (k : Fin c) :
    h.lift (ix2 i k) s = ix3 i s k := by
  funext ax
  match ax with
  | ⟨0, _⟩ => exact Fin.ext rfl
  | ⟨1, _⟩ => exact Fin.ext rfl
  | ⟨2, _⟩ => exact Fin.ext rfl

/-- A row's maximum from minus infinity. -/
theorem reduce_max {a b : ℕ} (x : FVec Ideal ⟨2, ![a, b]⟩ .f32) (h : (⟨2, ![a, b]⟩ : Shape).Reduces [1] ⟨1, ![a]⟩)
    (hφ : FKind.Formats .f32) (hacc : 0xFF800000#32 = 0xFF800000#32) (r : Fin a) :
    multiReduction .maximumf [1] ⟨1, ![a]⟩ x 0xFF800000#32 h hφ hacc (ix1 r)
      = (Finset.univ : Finset (Fin b)).fold max ⊥ fun c => x (ix2 r c) := by
  refine (Ideal.multiReduction_maximumf_single x 0xFF800000#32 h hφ hacc (ix1 r)).trans ?_
  rw [lit_bot]
  exact congrArg (fun f : Fin b → EReal => (Finset.univ : Finset (Fin b)).fold max ⊥ f)
    (funext fun c => congrArg x (lift_lane h r c))

/-- A row's least word from the greatest. -/
theorem reduce_min {a b : ℕ} (x : IVec ⟨2, ![a, b]⟩ 32) (h : (⟨2, ![a, b]⟩ : Shape).Reduces [1] ⟨1, ![a]⟩)
    (hacc : 2147483647#32 = 2147483647#32) (r : Fin a) :
    multiReductionI .minsi [1] ⟨1, ![a]⟩ x 2147483647#32 h hacc (ix1 r)
      = (Finset.univ : Finset (Fin b)).fold IKind.minsi.op 2147483647#32 fun c => x (ix2 r c) := by
  refine (multiReductionI_eq_fold .minsi x 2147483647#32 h hacc (ix1 r)).trans ?_
  refine (h.fold_filter_drop_single _ _ x (ix1 r)).trans ?_
  exact congrArg (fun f : Fin b → BitVec 32 => (Finset.univ : Finset (Fin b)).fold IKind.minsi.op 2147483647#32 f)
    (funext fun c => congrArg x (lift_lane h r c))

/-- The sum over the middle axis. -/
theorem reduce_mid {a b c : ℕ} (x : FVec Ideal ⟨3, ![a, b, c]⟩ .f32) (h : (⟨3, ![a, b, c]⟩ : Shape).Reduces [1] ⟨2, ![a, c]⟩)
    (hφ : FKind.Formats .f32) (hacc : 0x00000000#32 = 0x00000000#32) (i : Fin a) (k : Fin c) :
    multiReduction .add [1] ⟨2, ![a, c]⟩ x 0x00000000#32 h hφ hacc (ix2 i k) = ∑ s : Fin b, x (ix3 i s k) :=
  (Ideal.multiReduction_add_single x _ h hφ hacc (ix2 i k)).trans
    (Finset.sum_congr rfl fun s _ => congrArg x (lift_mid h i s k))

/-- The exponential of an array, at an index. -/
theorem exp_apply {s : Shape} (x : FVec Ideal s .f32) (i : s.Idx) : exp x i = Ideal.exp (x i) := rfl

/-- The sine of an array, at an index. -/
theorem sin_apply {s : Shape} (x : FVec Ideal s .f32) (i : s.Idx) : sin x i = Ideal.sin (x i) := rfl

/-- A scalar literal spread over an array, at an index. -/
theorem splat_apply {s : Shape} (b : BitVec 32) (i : s.Idx) :
    broadcast s (Scalar.ofBits .f32 b : Ideal .f32) i = (FloatOps.ofBits .f32 b : Ideal .f32) := rfl

/-- A zero spread over an array, at an index. -/
theorem splat_zero {s : Shape} (i : s.Idx) : broadcast s (Scalar.ofBits .f32 0x00000000#32 : Ideal .f32) i = (0 : EReal) :=
  lit_zero

/-- Equality of words, at an index. -/
theorem cmpi_apply {s : Shape} (p : CmpIPredicate) (x y : IVec s 32) (i : s.Idx) :
    cmpi p x y i = IntOp.cmpi p (x i) (y i) := rfl

/-- A comparison for equality of extended reals. -/
theorem cmp_oeq (x y : Ideal .f32) : FloatOps.cmpf .oeq x y = BitVec.ofBool (decide ((x : EReal) = y)) := rfl

/-- A matrix product onto zero. -/
theorem matmul_zero {M K N : ℕ} (lhs : FVec Ideal ⟨2, ![M, K]⟩ .f32) (rhs : FVec Ideal ⟨2, ![K, N]⟩ .f32)
    (d : DotDims ⟨2, ![M, K]⟩ ⟨2, ![K, N]⟩ ⟨2, ![M, N]⟩) (hd : d = DotDims.plain M K N) (prec : Option ContractPrecision)
    (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_plain_apply prec lhs rhs _ r c).trans ?_
  rw [show (constant ⟨2, ![M, N]⟩ .f32 0x00000000#32 : FVec Ideal ⟨2, ![M, N]⟩ .f32) (ix2 r c) = (0 : EReal) from lit_zero,
    zero_add]

end Cert.Moe
-- ==== Proof.KernelGate.lean ====
module

public import proofs.«01_k».proof.Proof.Gen.KernelIdeal.Skeleton
public import proofs.«01_k».proof.Proof.Reads
public import proofs.«01_k».proof.Proof.Bounds

/-! The kernel's gate weights of one token row: its two choices and their weights are `Spec`'s. Stated for the second
layer's stages; the first layer's are the same functions (`KernelLayer`). -/

@[expose] public section

namespace Cert.Moe

open Idealize.ShloMosaic Idealize.ShloMosaic.ValueIdx Cert.KernelIdeal Cert.KernelIdeal.Gen

/-- A selection by a tested condition. -/
theorem select_ofBool {α : Type} (b : Bool) (x y : α) : Scalar.select (BitVec.ofBool b) x y = if b then x else y := by
  cases b <;> rfl

/-- Equality of two words as a one-bit word. -/
theorem cmpi_eq_ofBool (x y : BitVec 32) : IntOp.cmpi .eq x y = BitVec.ofBool (decide (x = y)) := by
  rfl

/-- A one-bit word counted as a number. -/
theorem count_ofBool (b : Bool) :
    (FloatOps.sitofp .f32 ((BitVec.ofBool b).setWidth 32) : Ideal .f32) = (if b then (1 : EReal) else 0) := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

section
variable (X : FVec Ideal S2304x128 .f32) (gw : Vec Ideal S1x128x8 .f32) (gb : Vec Ideal S1x8 .f32) (r : Fin 2304)
variable {l : Fin 4 → EReal} (H : Lanes (fun j => k0_pay14 X gw gb (ix2 r j)) l)
include H

/-- The row's first maximum. -/
theorem pay15_read (u : Fin 1) : k0_pay15 X gw gb (ix2 r u) = l (first l) := by
  unfold k0_pay15
  rw [cast_col, reduce_max]
  exact H.max_first

/-- The lane of the first choice is marked. -/
theorem pay16_read (j : Fin 8) :
    k0_pay16 X gw gb (ix2 r j) = BitVec.ofBool (decide (j = (first l).castLE (by decide))) := by
  unfold k0_pay16
  rw [cmpi_apply, iota_lane, broadcast_col, cast_col, reduce_min, cmpi_eq_ofBool]
  have h := H.lane_first (k0_pay15 X gw gb (ix2 r 0)) (pay15_read X gw gb r H 0)
  have e : (fun c : Fin 8 => select (cmpf .oeq (k0_pay14 X gw gb) (broadcastTo S2304x8 (k0_pay15 X gw gb) broadcasts_S2304x1_S2304x8))
      (iota .tc S2304x8 32 [1] iota_S2304x8_d1_w32) (broadcast S2304x8 8#32) (ix2 r c))
      = fun c => if decide (k0_pay14 X gw gb (ix2 r c) = k0_pay15 X gw gb (ix2 r 0)) then BitVec.ofNat 32 c.val else 8#32 := by
    funext c
    rw [select_apply, cmpf_apply, iota_lane, broadcast_col]
    rw [cmp_oeq, select_ofBool]
    rfl
  rw [e, h]
  exact congrArg BitVec.ofBool (decide_eq_decide.mpr (lane_word_eq j ((first l).castLE (by decide))))

/-- The scores with the first choice's masked. -/
theorem pay17_read (j : Fin 8) : k0_pay17 X gw gb (ix2 r j)
    = if j = (first l).castLE (by decide) then masked else k0_pay14 X gw gb (ix2 r j) := by
  unfold k0_pay17
  rw [select_apply, pay16_read X gw gb r H, select_ofBool, splat_apply]
  simp only [decide_eq_true_eq]
  rfl

/-- The row's second maximum. -/
theorem pay18_read (u : Fin 1) : k0_pay18 X gw gb (ix2 r u) = l (second l) := by
  unfold k0_pay18
  rw [cast_col, reduce_max]
  simp only [pay17_read X gw gb r H]
  exact H.max_second

/-- The exponential of the difference of the two. -/
theorem pay19_read (u : Fin 1) : k0_pay19 X gw gb (ix2 r u) = ratio l := by
  unfold k0_pay19
  rw [exp_apply, subf_apply, pay18_read X gw gb r H, pay15_read X gw gb r H, ratio]

/-- What the two weights are divided by. -/
theorem pay20_read (u : Fin 1) : k0_pay20 X gw gb (ix2 r u) = 1 + ratio l := by
  unfold k0_pay20
  rw [addf_apply]
  rw [splat_apply, lit_one, pay19_read X gw gb r H]

/-- The first choice's weight in its lane. -/
theorem pay21_read (j : Fin 8) : k0_pay21 X gw gb (ix2 r j)
    = Ideal.div 1 (1 + ratio l) * (if j = (first l).castLE (by decide) then 1 else 0) := by
  unfold k0_pay21
  rw [mulf_apply, broadcast_col, divf_apply, pay20_read X gw gb r H, sitofp_apply, extui_apply, pay16_read X gw gb r H,
    count_ofBool, splat_apply, lit_one]
  simp only [decide_eq_true_eq]

/-- The second choice's weight in its lane. -/
theorem pay22_read (j : Fin 8) : k0_pay22 X gw gb (ix2 r j)
    = Ideal.div (ratio l) (1 + ratio l) * (if j = (second l).castLE (by decide) then 1 else 0) := by
  unfold k0_pay22
  rw [mulf_apply, broadcast_col, divf_apply, pay20_read X gw gb r H, pay19_read X gw gb r H, sitofp_apply, extui_apply]
  congr 1
  rw [cmpi_apply, iota_lane, broadcast_col, cast_col, reduce_min, cmpi_eq_ofBool]
  have h := H.lane_second (k0_pay18 X gw gb (ix2 r 0)) (pay18_read X gw gb r H 0)
  have e : (fun c : Fin 8 => select (cmpf .oeq (k0_pay17 X gw gb) (broadcastTo S2304x8 (k0_pay18 X gw gb) broadcasts_S2304x1_S2304x8))
      (iota .tc S2304x8 32 [1] iota_S2304x8_d1_w32) (broadcast S2304x8 8#32) (ix2 r c))
      = fun c => if decide ((if c = (first l).castLE (by decide) then masked else k0_pay14 X gw gb (ix2 r c))
        = k0_pay18 X gw gb (ix2 r 0)) then BitVec.ofNat 32 c.val else 8#32 := by
    funext c
    rw [select_apply, cmpf_apply, iota_lane, broadcast_col, pay17_read X gw gb r H]
    rw [cmp_oeq, select_ofBool]
    rfl
  rw [e, h, count_ofBool]
  simp only [decide_eq_true_eq]
  exact if_congr (lane_word_eq j ((second l).castLE (by decide))) rfl rfl

/-- The row's weight in lane `e` is expert `e`'s. -/
theorem gate_read (e : Fin 4) :
    k0_pay23 (k0_pay21 X gw gb) (k0_pay22 X gw gb) (ix2 r (e.castLE (by decide))) = gate l e := by
  unfold k0_pay23
  rw [addf_apply, pay21_read X gw gb r H, pay22_read X gw gb r H]
  have inj : ∀ a b : Fin 4, (a.castLE (by decide) : Fin 8) = b.castLE (by decide) ↔ a = b := by decide
  simp only [inj]
  unfold gate
  by_cases h1 : e = first l
  · have h2 : ¬ e = second l := fun q => (second_spec l).1 (q.symm.trans h1)
    rw [if_pos h1, if_neg h2, if_pos h1, mul_one, mul_zero, add_zero]
  · rw [if_neg h1, if_neg h1, mul_zero, zero_add]
    split_ifs
    · rw [mul_one]
    · rw [mul_zero]

end

end Cert.Moe
-- ==== Proof.KernelLayer.lean ====
module

public import proofs.«01_k».proof.Proof.KernelGate

/-! The kernel's two mixture layers at one token row, from what its parameter blocks hold: each is `Spec`'s layer. -/

@[expose] public section

namespace Cert.Moe

open Idealize.ShloMosaic Idealize.ShloMosaic.ValueIdx Cert.KernelIdeal Cert.KernelIdeal.Gen

/-- The first layer's scores are the second layer's function of the tokens. -/
theorem pay3_eq (x : Vec Ideal S1x2304x1 .f32) (W b : Vec Ideal S1x128 .f32) (gw : Vec Ideal S1x128x8 .f32) (gb : Vec Ideal S1x8 .f32) :
    k0_pay3 x W b gw gb = k0_pay14 (k0_pay2 x W b) gw gb := rfl

/-- So are its gate weights. -/
theorem pay9_eq (x : Vec Ideal S1x2304x1 .f32) (W b : Vec Ideal S1x128 .f32) (gw : Vec Ideal S1x128x8 .f32) (gb : Vec Ideal S1x8 .f32) :
    k0_pay9 (iota .tc S2304x8 32 [1] iota_S2304x8_d1_w32) (k0_pay4 x W b gw gb) (k0_pay5 x W b gw gb) (k0_pay7 x W b gw gb)
      (k0_pay8 x W b gw gb)
      = k0_pay23 (k0_pay21 (k0_pay2 x W b) gw gb) (k0_pay22 (k0_pay2 x W b) gw gb) := rfl

/-- So are its hidden activations. -/
theorem pay10_eq (X : FVec Ideal S2304x128 .f32) (w : Vec Ideal S1x128x1024 .f32) (b : Vec Ideal S1x1x1024 .f32) :
    k0_pay10 X w b = k0_pay24 X w b := rfl

/-- A token row. -/
theorem pay2_read (x : Vec Ideal S1x2304x1 .f32) (W b : Vec Ideal S1x128 .f32) (r : Fin 2304) (d : Fin 128) :
    k0_pay2 x W b (ix2 r d)
      = token (fun d => W (ix2 (0 : Fin 1) d)) (fun d => b (ix2 (0 : Fin 1) d)) (x (ix3 (0 : Fin 1) r (0 : Fin 1))) d := by
  unfold k0_pay2
  rw [addf_apply, mulf_apply, broadcast_col, shapeCast_1ab_ab_apply, broadcastTo_1b_ab_apply, broadcastTo_1b_ab_apply, cast_same]
  rfl

/-- What a layer's parameter blocks hold: the gate's matrix in the first four lanes and zeros in the other four, to whose
    scores the masking number is then added; the experts' first matrices side by side; the rest expert by expert. -/
structure Holds (p : Layer) (gw : Vec Ideal S1x128x8 .f32) (gb : Vec Ideal S1x8 .f32) (w1 : Vec Ideal S1x128x1024 .f32)
    (b1 : Vec Ideal S1x1x1024 .f32) (w2 : Fin 4 → Vec Ideal S1x1x256x128 .f32) (b2 : Fin 4 → Vec Ideal S1x1x1x128 .f32) : Prop where
  hgw : ∀ (d : Fin 128) (e : Fin 4), gw (ix3 (0 : Fin 1) d (e.castLE (by decide) : Fin 8)) = p.gw d e
  hgw_rest : ∀ (d : Fin 128) (j : Fin 8), 4 ≤ j.val → gw (ix3 (0 : Fin 1) d j) = (0 : EReal)
  hgb : ∀ e : Fin 4, gb (ix2 (0 : Fin 1) (e.castLE (by decide) : Fin 8)) = (0 : EReal)
  hgb_rest : ∀ j : Fin 8, 4 ≤ j.val → gb (ix2 (0 : Fin 1) j) = masked
  hw1 : ∀ (e : Fin 4) (d : Fin 128) (h : Fin 256) (q : Fin 1024), q.val = 256 * e.val + h.val →
    w1 (ix3 (0 : Fin 1) d q) = p.w1 e d h
  hb1 : ∀ (e : Fin 4) (h : Fin 256) (q : Fin 1024), q.val = 256 * e.val + h.val →
    b1 (ix3 (0 : Fin 1) (0 : Fin 1) q) = p.b1 e h
  hw2 : ∀ (e : Fin 4) (h : Fin 256) (d : Fin 128), w2 e (ix4 (0 : Fin 1) (0 : Fin 1) h d) = p.w2 e h d
  hb2 : ∀ (e : Fin 4) (d : Fin 128), b2 e (ix4 (0 : Fin 1) (0 : Fin 1) (0 : Fin 1) d) = p.b2 e d

section
variable {p : Layer} {gw : Vec Ideal S1x128x8 .f32} {gb : Vec Ideal S1x8 .f32} {w1 : Vec Ideal S1x128x1024 .f32}
  {b1 : Vec Ideal S1x1x1024 .f32} {w2 : Fin 4 → Vec Ideal S1x1x256x128 .f32} {b2 : Fin 4 → Vec Ideal S1x1x1x128 .f32}
  (K : Holds p gw gb w1 b1 w2 b2) (X : FVec Ideal S2304x128 .f32) (r : Fin 2304)
include K

/-- The eight lanes of a row's scores. -/
theorem scores_read (habove : ∀ e, masked < p.score (fun d => X (ix2 r d)) e) :
    Lanes (fun j => k0_pay14 X gw gb (ix2 r j)) (p.score fun d => X (ix2 r d)) := by
  have read : ∀ j : Fin 8, k0_pay14 X gw gb (ix2 r j)
      = (∑ d : Fin 128, X (ix2 r d) * gw (ix3 (0 : Fin 1) d j)) + gb (ix2 (0 : Fin 1) j) := by
    intro j
    unfold k0_pay14
    rw [addf_apply, matmul_zero _ _ dot_S2304x128_S128x8_S2304x8_1_0_0_1_n_n rfl, broadcastTo_1b_ab_apply, cast_same]
    simp only [shapeCast_1ab_ab_apply]
  refine ⟨fun e => ?_, habove, fun j hj => ?_⟩
  · simp only [read, K.hgw, K.hgb, add_zero]
    rfl
  · simp only [read, K.hgw_rest _ j hj, K.hgb_rest j hj, mul_zero, Finset.sum_const_zero, zero_add]

/-- A row's hidden activations, expert `e`'s being the 256 columns from `256·e`. -/
theorem hidden_read (e : Fin 4) (h : Fin 256) (q : Fin 1024) (hq : q.val = 256 * e.val + h.val) :
    k0_pay24 X w1 b1 (ix2 r q) = p.hidden (fun d => X (ix2 r d)) e h := by
  unfold k0_pay24
  rw [maximumf_apply, addf_apply, matmul_zero _ _ dot_S2304x128_S128x1024_S2304x1024_1_0_0_1_n_n rfl, broadcastTo_1b_ab_apply, shapeCast_1ab_ab_apply, splat_apply, lit_zero,
    K.hb1 e h q hq]
  simp only [shapeCast_1ab_ab_apply, K.hw1 e _ h q hq]
  rfl

/-- One expert's output at a row, its hidden activations read off a slice of columns. -/
theorem expert_read (e : Fin 4) (s : FVec Ideal S2304x256 .f32) (hs : ∀ h, s (ix2 r h) = p.hidden (fun d => X (ix2 r d)) e h)
    (d : Fin 128) :
    addf (matmul dot_S2304x256_S256x128_S2304x128_1_0_0_1_n_n none s (shapeCast (α := Ideal .f32) S256x128 (w2 e) shapeCasts_S1x1x256x128_S256x128)
        (constant S2304x128 .f32 0x00000000#32))
      (broadcastTo S2304x128 (shapeCast S1x128 (b2 e) shapeCasts_S1x1x1x128_S1x128) broadcasts_S1x128_S2304x128) (ix2 r d)
      = p.expert (fun d => X (ix2 r d)) e d := by
  rw [addf_apply, matmul_zero _ _ dot_S2304x256_S256x128_S2304x128_1_0_0_1_n_n rfl, broadcastTo_1b_ab_apply, cast_drop_two, K.hb2]
  simp only [cast_drop_two, K.hw2, hs]
  rfl

/-- The 256 columns from `o = 256·e` are expert `e`'s hidden activations. -/
theorem slice_read (e : Fin 4) (o : Nat) (ho : o = 256 * e.val) (hsl : S2304x1024.Slices ![0, o] S2304x256) (h : Fin 256) :
    extractStridedSlice S2304x256 ![0, o] (k0_pay24 X w1 b1) hsl (ix2 r h) = p.hidden (fun d => X (ix2 r d)) e h := by
  rw [slice2_axis1_eq]
  exact hidden_read K X r e h _ (congrArg (· + h.val) ho)

/-- The first layer at a row, from the weights in its lanes. -/
theorem layer_first (G : FVec Ideal S2304x8 .f32) (hG : ∀ e : Fin 4, G (ix2 r (e.castLE (by decide))) = gate (p.score fun d => X (ix2 r d)) e)
    (v17 : IVec S2304x8 32) (v19 : FVec Ideal S2304x1 .f32) (v27 : IVec S2304x8 1) (v31 : FVec Ideal S2304x1 .f32) (v38 : IVec S2304x8 32)
    (h9 : k0_pay9 v17 v19 v27 v31 v38 = G) (d : Fin 128) :
    k0_pay13 X G (k0_pay10 X w1 b1) (k0_pay11 X v17 v19 v27 v31 v38 w1 b1 (w2 0) (b2 0)) (k0_pay12 X w1 b1)
      (w2 1) (b2 1) (w2 2) (b2 2) (w2 3) (b2 3) (ix2 r d) = p.run (fun d => X (ix2 r d)) d := by
  unfold k0_pay13 k0_pay11 k0_pay12
  rw [h9, pay10_eq, addf_apply, addf_apply, addf_apply, addf_apply, mulf_apply, mulf_apply, mulf_apply, mulf_apply,
    broadcast_col, broadcast_col, broadcast_col, broadcast_col, slice2_axis1_eq, slice2_axis1_eq, slice2_axis1_eq, slice2_axis1_eq,
    expert_read K X r 0 _ (slice_read K X r 0 0 rfl _), expert_read K X r 1 _ (slice_read K X r 1 256 rfl _),
    expert_read K X r 2 _ (slice_read K X r 2 512 rfl _), expert_read K X r 3 _ (slice_read K X r 3 768 rfl _)]
  exact congrArg (X (ix2 r d) + ·) (congrArg₂ (· + ·) (congrArg₂ (· + ·) (congrArg₂ (· + ·) (congrArg (· * _) (hG 0))
    (congrArg (· * _) (hG 1))) (congrArg (· * _) (hG 2))) (congrArg (· * _) (hG 3)))

/-- The second layer's rows of one variable, averaged. -/
theorem layer_second (n : Fin 24) (row : Fin 96 → Fin 2304) (hrow : ∀ s, (row s).val = n.val * 96 + s.val)
    (U V : FVec Ideal S2304x8 .f32)
    (hG : ∀ (s : Fin 96) (e : Fin 4), k0_pay23 U V (ix2 (row s) (e.castLE (by decide))) = gate (p.score fun d => X (ix2 (row s) d)) e)
    (d : Fin 128) :
    k0_pay27 X (k0_pay23 U V) (k0_pay24 X w1 b1) (k0_pay25 X U V w1 b1 (w2 0) (b2 0) (w2 1) (b2 1)) (k0_pay26 X w1 b1)
      (w2 2) (b2 2) (w2 3) (b2 3) (ix2 n d) = mean (fun s => p.run fun d => X (ix2 (row s) d)) d := by
  unfold k0_pay27 k0_pay25 k0_pay26
  rw [mulf_apply, reduce_mid]
  refine congrArg₂ (· * ·) (Finset.sum_congr rfl fun s _ => ?_) (IdealRules.named_const.ideal_named_scalar _ _ _ _ rfl)
  rw [cast_split _ _ n s d (row s) (hrow s), addf_apply, addf_apply, addf_apply, addf_apply, mulf_apply, mulf_apply, mulf_apply, mulf_apply,
    broadcast_col, broadcast_col, broadcast_col, broadcast_col, slice2_axis1_eq, slice2_axis1_eq, slice2_axis1_eq, slice2_axis1_eq,
    expert_read K X (row s) 0 _ (slice_read K X (row s) 0 0 rfl _), expert_read K X (row s) 1 _ (slice_read K X (row s) 1 256 rfl _),
    expert_read K X (row s) 2 _ (slice_read K X (row s) 2 512 rfl _), expert_read K X (row s) 3 _ (slice_read K X (row s) 3 768 rfl _)]
  exact congrArg (X (ix2 (row s) d) + ·) (congrArg₂ (· + ·) (congrArg₂ (· + ·) (congrArg₂ (· + ·) (congrArg (· * _) (hG s 0))
    (congrArg (· * _) (hG s 1))) (congrArg (· * _) (hG s 2))) (congrArg (· * _) (hG s 3)))

end

end Cert.Moe
-- ==== Proof.KernelDecode.lean ====
module

public import proofs.«01_k».proof.Proof.KernelLayer

/-! The kernel's time embedding and decoder at one row of its output block: `Spec`'s decoder of the variable's mean and the
position's embedding. -/

@[expose] public section

namespace Cert.Moe

open Idealize.ShloMosaic Idealize.ShloMosaic.ValueIdx Cert.KernelIdeal Cert.KernelIdeal.Gen

/-- Two arrays of 128 lanes side by side. -/
theorem concat_lanes {α : Type} {N : ℕ} (x y : (⟨2, ![N, 128]⟩ : Shape).Idx → α)
    (h : Shape.Concatenates [(⟨2, ![N, 128]⟩ : Shape), ⟨2, ![N, 128]⟩] ⟨2, ![N, 256]⟩ 1) (r : Fin N) (i : Fin 256) :
    concatenate ⟨2, ![N, 256]⟩ 1 [⟨⟨2, ![N, 128]⟩, x⟩, ⟨⟨2, ![N, 128]⟩, y⟩] h (ix2 r i)
      = if hi : i.val < 128 then x (ix2 r ⟨i.val, hi⟩) else y (ix2 r ⟨i.val - 128, by omega⟩) := by
  split
  · rename_i hi
    refine concatenate_pair_apply_left _ x y h (ix2 r i) rfl (ix2 r ⟨i.val, hi⟩) fun b => ?_
    match b with
    | ⟨0, _⟩ => rfl
    | ⟨1, _⟩ => rfl
  · rename_i hi
    refine concatenate_pair_apply_right _ x y h (ix2 r i) rfl rfl (ix2 r ⟨i.val - 128, by omega⟩) (fun b hb => ?_) ?_
    · match b with
      | ⟨0, _⟩ => rfl
      | ⟨1, _⟩ => exact absurd rfl hb
    · show i.val - 128 + 128 = i.val
      omega

/-- The lane mark of the time embedding: lane 0. -/
theorem pay29_read (p : Fin 96) (d : Fin 128) : k0_pay29 (ix2 p d) = BitVec.ofBool (decide (d.val = 0)) := by
  unfold k0_pay29
  rw [cmpi_apply, iota_lane, broadcast_apply, cmpi_eq_ofBool]
  have : ∀ d : Fin 128, (BitVec.ofNat 32 d.val = 0#32) ↔ d.val = 0 := by decide +kernel
  exact congrArg BitVec.ofBool (decide_eq_decide.mpr (this d))

section
variable (u : FVec Ideal S24x128 .f32) (tt : Vec Ideal S1x96x1 .f32) (sw sb : Vec Ideal S1x1 .f32) (pw pb : Vec Ideal S1x128 .f32)
  (w1 : Vec Ideal S256x128 .f32) (b1 : Vec Ideal S1x128 .f32) (w2 : Vec Ideal S128x128 .f32) (b2 : Vec Ideal S1x128 .f32)
  (w3 : Vec Ideal S128x1 .f32) (b3 : Vec Ideal S1x1 .f32) (pw' pb' : Fin 127 → EReal)

/-- One row of the output block: row `p·24 + n` is variable `n` at position `p`. -/
theorem decode_read (hpw : ∀ (d : Fin 128) (h : d.val ≠ 0), pw (ix2 (0 : Fin 1) d) = pw' ⟨d.val - 1, by omega⟩)
    (hpb : ∀ (d : Fin 128) (h : d.val ≠ 0), pb (ix2 (0 : Fin 1) d) = pb' ⟨d.val - 1, by omega⟩)
    (p : Fin 96) (n : Fin 24) (r : Fin 2304) (hr : r.val = p.val * 24 + n.val) :
    k0_pay1 (k0_pay30 u (k0_pay28 tt) k0_pay29 sw sb pw pb w1 b1 w2 b2) (Scalar.ofBits .f32 0x00000000#32) w3 b3
        (ix3 (0 : Fin 1) r (0 : Fin 1))
      = decode (fun i j => w1 (ix2 i j)) (fun j => b1 (ix2 (0 : Fin 1) j)) (fun j k => w2 (ix2 j k)) (fun k => b2 (ix2 (0 : Fin 1) k))
          (fun k => w3 (ix2 k (0 : Fin 1))) (b3 (ix2 (0 : Fin 1) (0 : Fin 1))) (fun d => u (ix2 n d))
          (embed (sw (ix2 (0 : Fin 1) (0 : Fin 1))) (sb (ix2 (0 : Fin 1) (0 : Fin 1))) pw' pb' (tt (ix3 (0 : Fin 1) p (0 : Fin 1)))) := by
  have m1 := fun (x : FVec Ideal S2304x256 .f32) w r c => matmul_zero x w dot_S2304x256_S256x128_S2304x128_1_0_0_1_n_n rfl none r c
  have m2 := fun (x : FVec Ideal S2304x128 .f32) w r c => matmul_zero x w dot_S2304x128_S128x128_S2304x128_1_0_0_1_n_n rfl none r c
  have m3 := fun (x : FVec Ideal S2304x128 .f32) w r c => matmul_zero x w dot_S2304x128_S128x1_S2304x1_1_0_0_1_n_n rfl none r c
  unfold k0_pay1 k0_pay30 k0_pay28 decode
  rw [shapeCast_ab_1ab_apply, addf_apply, m3, broadcastTo_1b_ab_apply, cast_same]
  congr 1
  refine Finset.sum_congr rfl fun k _ => congrArg (· * _) ?_
  rw [maximumf_apply, splat_zero, addf_apply, m2, broadcastTo_1b_ab_apply, cast_same]
  refine congrArg (fun z : EReal => max (z + _) 0) (Finset.sum_congr rfl fun j _ => congrArg (· * _) ?_)
  rw [maximumf_apply, splat_zero, addf_apply, m1, broadcastTo_1b_ab_apply, cast_same]
  refine congrArg (fun z : EReal => max (z + _) 0) (Finset.sum_congr rfl fun i _ => congrArg (· * _) ?_)
  rw [concat_lanes]
  split
  · rw [cast_join _ _ p n _ r hr, broadcast_deep, cast_same, shapeCast_ab_1ab_apply]
  · rw [cast_join _ _ p n _ r hr, broadcast_mid, cast_same, cast_mid, select_apply, pay29_read, select_ofBool]
    unfold embed
    by_cases h0 : i.val - 128 = 0
    · rw [if_pos (decide_eq_true h0), dif_pos h0, broadcast_col, cast_same, addf_apply, mulf_apply, shapeCast_1ab_ab_apply,
        broadcastTo_1b_ab_apply, broadcastTo_1b_ab_apply, cast_same]
    · rw [if_neg (by simpa using h0), dif_neg h0, sin_apply, addf_apply, mulf_apply, broadcast_col, shapeCast_1ab_ab_apply,
        broadcastTo_1b_ab_apply, broadcastTo_1b_ab_apply, cast_same, cast_same, hpw _ h0, hpb _ h0]

end

end Cert.Moe
-- ==== Proof.KernelBlock.lean ====
module

public import proofs.«01_k».proof.Proof.Gen.KernelIdeal.Frame
public import proofs.«01_k».proof.Proof.KernelDecode

/-! One grid step of the kernel: what its output block holds at a row, from what its input blocks hold. -/

@[expose] public section

namespace Cert.Moe

open Idealize.ShloMosaic Idealize.ShloMosaic.ValueIdx Cert.KernelIdeal Cert.KernelIdeal.Gen

/-- The row of a variable's position in the token block. -/
def tokenRow (n : Fin 24) (s : Fin 96) : Fin 2304 := ⟨n.val * 96 + s.val, by omega⟩

/-- The row of a variable's prediction in the output block. -/
def outRow (p : Fin 96) (n : Fin 24) : Fin 2304 := ⟨p.val * 24 + n.val, by omega⟩

/-- The output block at position `p` of variable `n`, given what the parameter blocks hold and that the variable's scores
    lie above the masking number. -/
theorem block_read (x0 : Vec Ideal S1x2304x1 .f32) (x1 : Vec Ideal S1x96x1 .f32) (x2 x3 : Vec Ideal S1x128 .f32)
    (x4 : Vec Ideal S2x128x8 .f32) (x5 : Vec Ideal S1x8 .f32) (x6 : Vec Ideal S2x128x1024 .f32) (x7 : Vec Ideal S2x1x1024 .f32)
    (x8 : Vec Ideal S2x4x256x128 .f32) (x9 : Vec Ideal S2x4x1x128 .f32) (x10 x11 : Vec Ideal S1x1 .f32) (x12 x13 : Vec Ideal S1x128 .f32)
    (x14 : Vec Ideal S256x128 .f32) (x15 : Vec Ideal S1x128 .f32) (x16 : Vec Ideal S128x128 .f32) (x17 : Vec Ideal S1x128 .f32)
    (x18 : Vec Ideal S128x1 .f32) (x19 : Vec Ideal S1x1 .f32) (p q : Layer) (pw pb : Fin 127 → EReal)
    (hp : Holds p (View.ld x4 r0_2) (View.ld x5 r0_3) (View.ld x6 r0_4) (View.ld x7 r0_5)
      ![View.ld x8 r0_6, View.ld x8 r0_8, View.ld x8 r0_10, View.ld x8 r0_12]
      ![View.ld x9 r0_7, View.ld x9 r0_9, View.ld x9 r0_11, View.ld x9 r0_13])
    (hq : Holds q (View.ld x4 r0_14) (View.ld x5 r0_3) (View.ld x6 r0_15) (View.ld x7 r0_16)
      ![View.ld x8 r0_17, View.ld x8 r0_19, View.ld x8 r0_21, View.ld x8 r0_23]
      ![View.ld x9 r0_18, View.ld x9 r0_20, View.ld x9 r0_22, View.ld x9 r0_24])
    (hpw : ∀ (d : Fin 128) (h : d.val ≠ 0), x12 (ix2 (0 : Fin 1) d) = pw ⟨d.val - 1, by omega⟩)
    (hpb : ∀ (d : Fin 128) (h : d.val ≠ 0), x13 (ix2 (0 : Fin 1) d) = pb ⟨d.val - 1, by omega⟩)
    (tok : Fin 96 → Fin 128 → EReal) (n : Fin 24)
    (htok : ∀ s d, tok s d = token (fun d => x2 (ix2 (0 : Fin 1) d)) (fun d => x3 (ix2 (0 : Fin 1) d))
      (x0 (ix3 (0 : Fin 1) (tokenRow n s) (0 : Fin 1))) d)
    (hfirst : ∀ s e, masked < p.score (tok s) e) (hsecond : ∀ s e, masked < q.score (p.run (tok s)) e) (t : Fin 96) :
    out0_20 x0 x1 x2 x3 x4 x5 x6 x7 x8 x9 x10 x11 x12 x13 x14 x15 x16 x17 x18 x19 (ix3 (0 : Fin 1) (outRow t n) (0 : Fin 1))
      = decode (fun i j => x14 (ix2 i j)) (fun j => x15 (ix2 (0 : Fin 1) j)) (fun j k => x16 (ix2 j k)) (fun k => x17 (ix2 (0 : Fin 1) k))
          (fun k => x18 (ix2 k (0 : Fin 1))) (x19 (ix2 (0 : Fin 1) (0 : Fin 1))) (mean fun s => q.run (p.run (tok s)))
          (embed (x10 (ix2 (0 : Fin 1) (0 : Fin 1))) (x11 (ix2 (0 : Fin 1) (0 : Fin 1))) pw pb (x1 (ix3 (0 : Fin 1) t (0 : Fin 1)))) := by
  have z2 : (![0, 0] : Fin 2 → Nat) = fun _ => 0 := by funext a; fin_cases a <;> rfl
  have z3 : (![0, 0, 0] : Fin 3 → Nat) = fun _ => 0 := by funext a; fin_cases a <;> rfl
  have e0 : View.ld x0 r0_0 = x0 := View.ld_unit_zero z3 _ x0
  have e1 : View.ld x1 r0_25 = x1 := View.ld_unit_zero z3 _ x1
  have er : ∀ x : Vec Ideal S1x128 .f32, View.ld x r0_1 = x := View.ld_unit_zero z2 _
  have eu : ∀ x : Vec Ideal S1x1 .f32, View.ld x r0_26 = x := View.ld_unit_zero z2 _
  have e14 : View.ld x14 r0_27 = x14 := View.ld_unit_zero z2 _ x14
  have e16 : View.ld x16 r0_28 = x16 := View.ld_unit_zero z2 _ x16
  have e18 : View.ld x18 r0_29 = x18 := View.ld_unit_zero z2 _ x18
  unfold out0_20
  rw [View.canon_unit_zero z3, e1, er, er, er, er, eu, eu, eu, e14, e16, e18]
  refine (decode_read _ x1 x10 x11 x12 x13 x14 x15 x16 x17 x18 x19 pw pb hpw hpb t n (outRow t n) rfl).trans ?_
  congr 1
  funext d
  -- the first layer's rows
  have hX : ∀ s, (fun d => k0_pay2 x0 x2 x3 (ix2 (tokenRow n s) d)) = tok s :=
    fun s => funext fun d => (pay2_read x0 x2 x3 _ d).trans (htok s d).symm
  have h37 : ∀ s, (fun d => k0_pay37 x0 x1 x2 x3 x4 x5 x6 x7 x8 x9 x10 x11 x12 x13 x14 x15 x16 x17 x18 x19 (ix2 (tokenRow n s) d))
      = p.run (tok s) := by
    intro s
    funext d
    unfold k0_pay37 k0_pay36 k0_pay35 k0_pay34 k0_pay33 k0_pay32 k0_pay31
    rw [e0, er, er]
    have hL := scores_read hp (k0_pay2 x0 x2 x3) (tokenRow n s) (by rw [hX]; exact hfirst s)
    refine (layer_first hp (k0_pay2 x0 x2 x3) (tokenRow n s) _ (fun e => ?_) _ _ _ _ _ rfl d).trans ?_
    · rw [pay9_eq]
      exact gate_read (k0_pay2 x0 x2 x3) _ _ (tokenRow n s) hL e
    · rw [hX]
  -- the second layer's rows, averaged
  generalize hA : k0_pay37 x0 x1 x2 x3 x4 x5 x6 x7 x8 x9 x10 x11 x12 x13 x14 x15 x16 x17 x18 x19 = A at h37 ⊢
  unfold k0_pay39 k0_pay38
  rw [hA]
  refine (layer_second hq A n (tokenRow n) (fun s => rfl) _ _ (fun s e => ?_) d).trans ?_
  · exact gate_read A _ _ (tokenRow n s) (scores_read hq A (tokenRow n s) (by rw [h37]; exact hsecond s)) e
  · simp only [h37]

end Cert.Moe
-- ==== Proof.KernelArrays.lean ====
module

public import Idealize.ShloMosaic.Lib.KernelVsHost
public import proofs.«01_k».proof.Proof.Answer
public import proofs.«01_k».proof.Proof.KernelHost
public import proofs.«01_k».proof.Proof.KernelBlock

/-! The arrays at the kernel's launch read at one index, in terms of the program's arguments. -/

@[expose] public section

namespace Cert.Moe

open Idealize.ShloMosaic Idealize.ShloMosaic.TcCoe Idealize.ShloMosaic.ValueIdx Cert.KernelIdeal Cert.KernelIdeal.Gen

/-- The kernel program's arguments on a device. -/
def kernelArgs (m : (ℓ : Loc nD τ sig) → Buf (Elt Ideal) ℓ) (c : Dev nD) : Args where
  a0 := m ((c : Thread nD τ).loc main_arg0)
  a1 := m ((c : Thread nD τ).loc main_arg1)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)

/-- A scalar spread over an array. -/
theorem broadcast_scalar {T : Shape} {α : Type} (h : (⟨0, ![]⟩ : Shape).BroadcastsInDim T ![]) (x : (⟨0, ![]⟩ : Shape).Idx → α) (j : T.Idx) :
    broadcastInDim T ![] h x j = x ix0 := by
  unfold broadcastInDim
  exact congrArg x (funext fun a => a.elim0)

/-- A padded batch of series: past its end in time the padding value. -/
theorem pad_time (x : Arr ![32, 72, 21]) (v : Arr (n := 0) ![]) (h : (⟨3, ![32, 72, 21]⟩ : Shape).Pads ![0, 0, 0] ![0, 24, 0] ![0, 0, 0] ⟨3, ![32, 96, 21]⟩)
    (hu : 0 < (⟨0, ![]⟩ : Shape).numel) (b : Fin 32) (s : Fin 96) (n : Fin 21) :
    pad ⟨3, ![32, 96, 21]⟩ ![0, 0, 0] ![0, 24, 0] ![0, 0, 0] x v h hu (ix3 b s n)
      = if hs : s.val < 72 then x (ix3 b ⟨s.val, hs⟩ n) else v ix0 := by
  split
  · rename_i hs
    refine pad_apply_of_inside _ _ _ x v h hu (ix3 b s n) (ix3 b ⟨s.val, hs⟩ n) fun ax => ?_
    match ax with
    | ⟨0, _⟩ => show b.val = 0 + b.val * 1; omega
    | ⟨1, _⟩ => show s.val = 0 + s.val * 1; omega
    | ⟨2, _⟩ => show n.val = 0 + n.val * 1; omega
  · rename_i hs
    refine (pad_apply_of_not_inside _ _ _ x v h hu (ix3 b s n) (1 : Fin 3) fun hin => hs ?_).trans ?_
    · have := hin.2.2
      change (s.val - 0) / 1 < 72 at this
      omega
    · exact congrArg v (funext fun a => a.elim0)

/-- A batch padded in variables, at a variable that was there. -/
theorem pad_variables (x : Arr ![32, 21, 96]) (v : Arr (n := 0) ![]) (h : (⟨3, ![32, 21, 96]⟩ : Shape).Pads ![0, 0, 0] ![0, 3, 0] ![0, 0, 0] ⟨3, ![32, 24, 96]⟩)
    (hu : 0 < (⟨0, ![]⟩ : Shape).numel) (b : Fin 32) (n : Fin 21) (s : Fin 96) :
    pad ⟨3, ![32, 24, 96]⟩ ![0, 0, 0] ![0, 3, 0] ![0, 0, 0] x v h hu (ix3 b (n.castLE (by decide) : Fin 24) s) = x (ix3 b n s) := by
  refine pad_apply_of_inside _ _ _ x v h hu _ (ix3 b n s) fun ax => ?_
  match ax with
  | ⟨0, _⟩ => show b.val = 0 + b.val * 1; omega
  | ⟨1, _⟩ => show n.val = 0 + n.val * 1; omega
  | ⟨2, _⟩ => show s.val = 0 + s.val * 1; omega

/-- A batch of matrices laid out as one column each. -/
theorem cast_column {b n q N : ℕ} (x : Arr ![b, n, q]) (h : (⟨3, ![b, n, q]⟩ : Shape).ShapeCasts ⟨3, ![b, N, 1]⟩)
    (hN : N = n * q) (i : Fin b) (j : Fin n) (k : Fin q) (r : Fin N) (hr : r.val = j.val * q + k.val) :
    shapeCast ⟨3, ![b, N, 1]⟩ x h (ix3 i r (0 : Fin 1)) = x (ix3 i j k) :=
  shapeCast_apply x h _ _ (by
    rw [Shape.rowMajor_val_three, Shape.rowMajor_val_three]
    show (i.val * n + j.val) * q + k.val = (i.val * N + r.val) * 1 + 0
    rw [hr, hN]
    ring)

/-- A matrix given a last axis of one. -/
theorem cast_unit {a b : ℕ} (x : Arr ![a, b]) (h : (⟨2, ![a, b]⟩ : Shape).ShapeCasts ⟨3, ![a, b, 1]⟩) (i : Fin a) (j : Fin b) :
    shapeCast ⟨3, ![a, b, 1]⟩ x h (ix3 i j (0 : Fin 1)) = x (ix2 i j) :=
  shapeCast_apply x h _ _ (by
    rw [Shape.rowMajor_val_three, Shape.rowMajor_val_two]
    show i.val * b + j.val = (i.val * b + j.val) * 1 + 0
    omega)

/-- A vector as a row. -/
theorem cast_row {b : ℕ} (x : Arr ![b]) (h : (⟨1, ![b]⟩ : Shape).ShapeCasts ⟨2, ![1, b]⟩) (j : Fin b) :
    shapeCast ⟨2, ![1, b]⟩ x h (ix2 (0 : Fin 1) j) = x (ix1 j) :=
  shapeCast_apply x h _ _ (by
    rw [Shape.rowMajor_val_two, Shape.rowMajor_val_one]
    show j.val = 0 * b + j.val
    omega)

/-- The last two of four axes joined. -/
theorem cast_group {a b e g N : ℕ} (x : Arr ![a, b, e, g]) (h : (⟨4, ![a, b, e, g]⟩ : Shape).ShapeCasts ⟨3, ![a, b, N]⟩)
    (hN : N = e * g) (i : Fin a) (j : Fin b) (k : Fin e) (l : Fin g) (q : Fin N) (hq : q.val = g * k.val + l.val) :
    shapeCast ⟨3, ![a, b, N]⟩ x h (ix3 i j q) = x (ix4 i j k l) :=
  shapeCast_apply x h _ _ (by
    rw [Shape.rowMajor_val_three, Shape.rowMajor_val_four]
    show ((i.val * b + j.val) * e + k.val) * g + l.val = (i.val * b + j.val) * N + q.val
    rw [hq, hN]
    ring)

/-- The last two of three axes joined, behind a new axis of one. -/
theorem cast_flat {a e g N : ℕ} (x : Arr ![a, e, g]) (h : (⟨3, ![a, e, g]⟩ : Shape).ShapeCasts ⟨3, ![a, 1, N]⟩)
    (hN : N = e * g) (i : Fin a) (k : Fin e) (l : Fin g) (q : Fin N) (hq : q.val = g * k.val + l.val) :
    shapeCast ⟨3, ![a, 1, N]⟩ x h (ix3 i (0 : Fin 1) q) = x (ix3 i k l) :=
  shapeCast_apply x h _ _ (by
    rw [Shape.rowMajor_val_three, Shape.rowMajor_val_three]
    show (i.val * e + k.val) * g + l.val = (i.val * 1 + 0) * N + q.val
    rw [hq, hN]
    ring)

/-- A new axis of one before the last. -/
theorem cast_bias {a b g : ℕ} (x : Arr ![a, b, g]) (h : (⟨3, ![a, b, g]⟩ : Shape).ShapeCasts ⟨4, ![a, b, 1, g]⟩)
    (i : Fin a) (j : Fin b) (k : Fin g) : shapeCast ⟨4, ![a, b, 1, g]⟩ x h (ix4 i j (0 : Fin 1) k) = x (ix3 i j k) :=
  shapeCast_apply x h _ _ (by
    rw [Shape.rowMajor_val_four, Shape.rowMajor_val_three]
    show (i.val * b + j.val) * g + k.val = ((i.val * b + j.val) * 1 + 0) * g + k.val
    ring)

/-- The middle two of four axes exchanged. -/
theorem transpose_middle {a b e g : ℕ} (x : Arr ![a, b, e, g])
    (h : (⟨4, ![a, b, e, g]⟩ : Shape).Transposes [0, 2, 1, 3] ⟨4, ![a, e, b, g]⟩) (i : Fin a) (j : Fin e) (k : Fin b) (l : Fin g) :
    transpose ⟨4, ![a, e, b, g]⟩ [0, 2, 1, 3] x h (ix4 i j k l) = x (ix4 i k j l) :=
  transpose_apply _ x h _ _ fun ax => match ax with | ⟨0, _⟩ => rfl | ⟨1, _⟩ => rfl | ⟨2, _⟩ => rfl | ⟨3, _⟩ => rfl

/-- Two rows end to end. -/
theorem concat_rows {p q N : ℕ} (x : Arr ![1, p]) (y : Arr ![1, q])
    (h : Shape.Concatenates [(⟨2, ![1, p]⟩ : Shape), ⟨2, ![1, q]⟩] ⟨2, ![1, N]⟩ 1) (hN : N = p + q) (i : Fin N) :
    concatenate ⟨2, ![1, N]⟩ 1 [⟨⟨2, ![1, p]⟩, x⟩, ⟨⟨2, ![1, q]⟩, y⟩] h (ix2 (0 : Fin 1) i)
      = if hi : i.val < p then x (ix2 (0 : Fin 1) ⟨i.val, hi⟩) else y (ix2 (0 : Fin 1) ⟨i.val - p, by omega⟩) := by
  split
  · rename_i hi
    refine concatenate_pair_apply_left _ x y h (ix2 (0 : Fin 1) i) rfl (ix2 (0 : Fin 1) ⟨i.val, hi⟩) fun b => ?_
    match b with
    | ⟨0, _⟩ => rfl
    | ⟨1, _⟩ => rfl
  · rename_i hi
    refine concatenate_pair_apply_right _ x y h (ix2 (0 : Fin 1) i) rfl rfl (ix2 (0 : Fin 1) ⟨i.val - p, by omega⟩) (fun b hb => ?_) ?_
    · match b with
      | ⟨0, _⟩ => rfl
      | ⟨1, _⟩ => exact absurd rfl hb
    · show i.val - p + p = i.val
      omega

/-- Two stacks of matrices side by side. -/
theorem concat_stacks {a b p q N : ℕ} (x : Arr ![a, b, p]) (y : Arr ![a, b, q])
    (h : Shape.Concatenates [(⟨3, ![a, b, p]⟩ : Shape), ⟨3, ![a, b, q]⟩] ⟨3, ![a, b, N]⟩ 2) (hN : N = p + q) (l : Fin a) (d : Fin b) (i : Fin N) :
    concatenate ⟨3, ![a, b, N]⟩ 2 [⟨⟨3, ![a, b, p]⟩, x⟩, ⟨⟨3, ![a, b, q]⟩, y⟩] h (ix3 l d i)
      = if hi : i.val < p then x (ix3 l d ⟨i.val, hi⟩) else y (ix3 l d ⟨i.val - p, by omega⟩) := by
  split
  · rename_i hi
    refine concatenate_pair_apply_left _ x y h (ix3 l d i) rfl (ix3 l d ⟨i.val, hi⟩) fun b => ?_
    match b with
    | ⟨0, _⟩ => rfl
    | ⟨1, _⟩ => rfl
    | ⟨2, _⟩ => rfl
  · rename_i hi
    refine concatenate_pair_apply_right _ x y h (ix3 l d i) rfl rfl (ix3 l d ⟨i.val - p, by omega⟩) (fun b hb => ?_) ?_
    · match b with
      | ⟨0, _⟩ => rfl
      | ⟨1, _⟩ => rfl
      | ⟨2, _⟩ => exact absurd rfl hb
    · show i.val - p + p = i.val
      omega

variable (m : (ℓ : Loc nD τ sig) → Buf (Elt Ideal) ℓ) (c : Dev nD)

/-- The kernel's observations at a variable's position. -/
theorem observations_read (b : Fin 32) (n : Fin 21) (s : Fin 96) :
    V m c main_v3 (ix3 b (tokenRow (n.castLE (by decide)) s) (0 : Fin 1)) = (kernelArgs m c).series b n s := by
  rw [host_v3]
  refine (cast_column _ _ rfl b (n.castLE (by decide) : Fin 24) s _ rfl).trans ?_
  refine (pad_variables _ _ _ _ b n s).trans ?_
  refine (transpose_ix3_021_apply _ _ b n s).trans ?_
  refine (pad_time _ _ _ _ b s n).trans ?_
  unfold Args.series
  split
  · rfl
  · rw [sitofp_apply]
    exact sitofp_zero (φ := .f32)

/-- The kernel's times. -/
theorem times_read (b : Fin 32) (t : Fin 96) : V m c main_v4 (ix3 b t (0 : Fin 1)) = (kernelArgs m c).a0 (ix2 b t) := by
  rw [host_v4]
  exact cast_unit _ _ b t

/-- The padded score matrices: the four real lanes, then zeros. -/
theorem router_read (l : Fin 2) (d : Fin 128) (j : Fin 8) :
    V m c main_v6 (ix3 l d j) = if hj : j.val < 4 then (kernelArgs m c).a6 (ix3 l d ⟨j.val, hj⟩) else 0 := by
  rw [(host_layers m c).1]
  refine (concat_stacks (p := 4) (q := 4) (N := 8) _ _ _ rfl l d j).trans ?_
  split
  · rfl
  · exact (broadcast_scalar _ _ _).trans lit_zero

/-- The lanes' biases: zero for the real ones, the masking number for the rest. -/
theorem lanes_read (j : Fin 8) : V m c main_v9 (ix2 (0 : Fin 1) j) = if j.val < 4 then (0 : EReal) else masked := by
  rw [(host_layers m c).2.1]
  refine (concat_rows (p := 4) (q := 4) (N := 8) _ _ _ rfl j).trans ?_
  split
  · exact (broadcast_scalar _ _ _).trans lit_zero
  · exact broadcast_scalar _ _ _

/-- The experts' first matrices side by side. -/
theorem w1_read (l : Fin 2) (e : Fin 4) (d : Fin 128) (h : Fin 256) (q : Fin 1024) (hq : q.val = 256 * e.val + h.val) :
    V m c main_v11 (ix3 l d q) = (kernelArgs m c).a7 (ix4 l e d h) := by
  rw [(host_layers m c).2.2.1]
  exact (cast_group _ _ rfl l d e h q hq).trans (transpose_middle _ _ l d e h)

/-- The experts' first biases end to end. -/
theorem b1_read (l : Fin 2) (e : Fin 4) (h : Fin 256) (q : Fin 1024) (hq : q.val = 256 * e.val + h.val) :
    V m c main_v12 (ix3 l (0 : Fin 1) q) = (kernelArgs m c).a8 (ix3 l e h) := by
  rw [(host_layers m c).2.2.2.1]
  exact cast_flat _ _ rfl l e h q hq

/-- The experts' second biases. -/
theorem b2_read (l : Fin 2) (e : Fin 4) (d : Fin 128) :
    V m c main_v13 (ix4 l e (0 : Fin 1) d) = (kernelArgs m c).a10 (ix3 l e d) := by
  rw [(host_layers m c).2.2.2.2]
  exact cast_bias _ _ l e d

/-- The sines' weights stand one lane to the right. -/
theorem phase_weights_read (d : Fin 128) (h : d.val ≠ 0) :
    V m c main_v16 (ix2 (0 : Fin 1) d) = (kernelArgs m c).a13 (ix2 (0 : Fin 1) ⟨d.val - 1, by omega⟩) := by
  rw [(host_rows m c).2.1]
  refine (concat_rows (p := 1) (q := 127) (N := 128) _ _ _ rfl d).trans (dif_neg (by omega))

/-- So do the sines' biases. -/
theorem phase_biases_read (d : Fin 128) (h : d.val ≠ 0) :
    V m c main_v19 (ix2 (0 : Fin 1) d) = (kernelArgs m c).a14 (ix1 ⟨d.val - 1, by omega⟩) := by
  rw [(host_rows m c).2.2.1]
  refine (concat_rows (p := 1) (q := 127) (N := 128) _ _ _ rfl d).trans ((dif_neg (by omega)).trans ?_)
  exact cast_row _ _ _

/-- The biases that became rows. -/
theorem rows_read : V m c main_v14 (ix2 (0 : Fin 1) (0 : Fin 1)) = (kernelArgs m c).a12 (ix1 (0 : Fin 1))
    ∧ (∀ j : Fin 128, V m c main_v20 (ix2 (0 : Fin 1) j) = (kernelArgs m c).a16 (ix1 j))
    ∧ (∀ j : Fin 128, V m c main_v21 (ix2 (0 : Fin 1) j) = (kernelArgs m c).a18 (ix1 j))
    ∧ V m c main_v22 (ix2 (0 : Fin 1) (0 : Fin 1)) = (kernelArgs m c).a20 (ix1 (0 : Fin 1))
    ∧ ∀ j : Fin 128, V m c main_v23 (ix2 (0 : Fin 1) j) = (kernelArgs m c).a5 (ix1 j) := by
  obtain ⟨h14, -, -, h20, h21, h22, h23⟩ := host_rows m c
  rw [h14, h20, h21, h22, h23]
  exact ⟨cast_row _ _ _, fun j => cast_row _ _ j, fun j => cast_row _ _ j, cast_row _ _ _, fun j => cast_row _ _ j⟩

end Cert.Moe
-- ==== Proof.KernelWindows.lean ====
module

public import proofs.«01_k».proof.Proof.Gen.KernelIdeal.Frame
public import Idealize.ShloMosaic.Lib.Pipeline.Value
public import Idealize.ShloMosaic.Lib.ValueLayout

/-! The block each window reads at a grid point: the parameter windows read their whole arrays, the windows of the
    observations and of the times read the point's batch element. -/

@[expose] public section

namespace Cert.Moe

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD) (t : Fin cfg0.N)

set_option maxHeartbeats 2000000 in
/-- The parameter windows read their whole arrays at every point. -/
theorem windows_whole : (iblk m c 2 t = V m c main_arg4 ∧ iblk m c 3 t = V m c main_v23 ∧ iblk m c 4 t = V m c main_v6
    ∧ iblk m c 5 t = V m c main_v9 ∧ iblk m c 6 t = V m c main_v11 ∧ iblk m c 7 t = V m c main_v12)
    ∧ (iblk m c 8 t = V m c main_arg9 ∧ iblk m c 9 t = V m c main_v13 ∧ iblk m c 10 t = V m c main_arg11
    ∧ iblk m c 11 t = V m c main_v14 ∧ iblk m c 12 t = V m c main_v16 ∧ iblk m c 13 t = V m c main_v19)
    ∧ (iblk m c 14 t = V m c main_arg15 ∧ iblk m c 15 t = V m c main_v20 ∧ iblk m c 16 t = V m c main_arg17
    ∧ iblk m c 17 t = V m c main_v21 ∧ iblk m c 18 t = V m c main_arg19 ∧ iblk m c 19 t = V m c main_v22) := by
  repeat' apply And.intro
  all_goals
    funext j
    unfold iblk
    rw [View.read_apply]
    refine congrArg (V m c _) (funext fun a => Fin.ext ?_)
    refine Pipeline.Window.rect_emb_val_of_index_zero _ t a ?_ j
    fin_cases a <;> rfl

/-- The point's coordinate on the grid. -/
theorem point_index : ∀ t : Fin cfg0.N, win0_0.index t = ![t.val, 0, 0] ∧ win0_1.index t = ![t.val, 0, 0]
    ∧ win0_20.index t = ![t.val, 0, 0] := by
  have h : ∀ t : Fin grid0.N, win0_0.index t = ![t.val, 0, 0] ∧ win0_1.index t = ![t.val, 0, 0]
    ∧ win0_20.index t = ![t.val, 0, 0] := by decide +kernel
  exact h

/-- The batch element of a grid point. -/
def batchOf (t : Fin cfg0.N) : Fin 32 := t.cast (by decide +kernel)

/-- The observations' window reads the point's batch element. -/
theorem window0 (r : Fin 2304) : iblk m c 0 t (ix3 (0 : Fin 1) r (0 : Fin 1)) = V m c main_v3 (ix3 (batchOf t) r (0 : Fin 1)) := by
  unfold iblk
  rw [View.read_apply]
  refine congrArg (V m c main_v3) ?_
  funext a
  refine Fin.ext ((win0_0.rect_emb_val t (ix3 (0 : Fin 1) r (0 : Fin 1)) a).trans ?_)
  rw [(point_index t).1]
  match a with
  | ⟨0, _⟩ => exact (Nat.add_zero _).trans (Nat.mul_one _)
  | ⟨1, _⟩ => exact (congrArg (· + r.val) (Nat.zero_mul _)).trans (Nat.zero_add _)
  | ⟨2, _⟩ => rfl

/-- So does the times' window. -/
theorem window1 (p : Fin 96) : iblk m c 1 t (ix3 (0 : Fin 1) p (0 : Fin 1)) = V m c main_v4 (ix3 (batchOf t) p (0 : Fin 1)) := by
  unfold iblk
  rw [View.read_apply]
  refine congrArg (V m c main_v4) ?_
  funext a
  refine Fin.ext ((win0_1.rect_emb_val t (ix3 (0 : Fin 1) p (0 : Fin 1)) a).trans ?_)
  rw [(point_index t).2.1]
  match a with
  | ⟨0, _⟩ => exact (Nat.add_zero _).trans (Nat.mul_one _)
  | ⟨1, _⟩ => exact (congrArg (· + p.val) (Nat.zero_mul _)).trans (Nat.zero_add _)
  | ⟨2, _⟩ => rfl

/-- Two points' output blocks share no index of the output. -/
theorem disjoint_out : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne <| Fin.ext <|
    congrFun ((point_index t).2.2.symm.trans (h.trans (point_index t').2.2)) (0 : Fin 3)

/-- The output array after the run, at a row of a point's block, is what the point's body leaves there. -/
theorem output_read (r : Fin 2304) : (dats m 0 c).arrAt 20 cfg0.N (ix3 (batchOf t) r (0 : Fin 1))
    = out0_20 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (ix3 (0 : Fin 1) r (0 : Fin 1)) := by
  have h := (dats m 0 c).arrAt_emb_eq_flushed 20 disjoint_out t (flush0_20 t) (ix3 (0 : Fin 1) r (0 : Fin 1))
  have he : ((cfg0.win 20).blk t).view.emb (ix3 (0 : Fin 1) r (0 : Fin 1)) = ix3 (batchOf t) r (0 : Fin 1) := by
    funext a
    refine Fin.ext ((win0_20.rect_emb_val t (ix3 (0 : Fin 1) r (0 : Fin 1)) a).trans ?_)
    rw [(point_index t).2.2]
    match a with
    | ⟨0, _⟩ => exact (Nat.add_zero _).trans (Nat.mul_one _)
    | ⟨1, _⟩ => exact (congrArg (· + r.val) (Nat.zero_mul _)).trans (Nat.zero_add _)
    | ⟨2, _⟩ => rfl
  rw [he] at h
  refine h.trans ?_
  rw [← after0_20]
  rfl

end Cert.Moe
-- ==== Proof.KernelAnswer.lean ====
module

public import Idealize.ShloMosaic.Lib.Pipeline.ValueKit.Tiles
public import proofs.«01_k».proof.Proof.KernelArrays
public import proofs.«01_k».proof.Proof.KernelWindows

/-! The kernel's output array holds the answer. -/

@[expose] public section

namespace Cert.Moe

open Idealize.ShloMosaic Idealize.ShloMosaic.TcCoe Idealize.ShloMosaic.ValueIdx Cert.KernelIdeal Cert.KernelIdeal.Gen

/-- A slice of a stack of matrices read at an index. -/
theorem load_matrix {a b g : ℕ} (X : Vec Ideal ⟨3, ![a, b, g]⟩ .f32) (l : Fin a) (off : Fin 3 → Nat) (hoff : off = ![l.val, 0, 0])
    (inb : ∀ ax, off ax + (![1, b, g] : Fin 3 → Nat) ax ≤ (⟨3, ![a, b, g]⟩ : Shape).size ax) (i : Fin b) (j : Fin g) :
    View.ld X (Rect.unit (s := ⟨3, ![a, b, g]⟩) off ![1, b, g] inb) (ix3 (0 : Fin 1) i j) = X (ix3 l i j) := by
  subst hoff
  refine View.ld_unit_apply_of X _ _ inb _ _ fun ax => ?_
  match ax with
  | ⟨0, _⟩ => rfl
  | ⟨1, _⟩ => exact (Nat.zero_add _).symm
  | ⟨2, _⟩ => exact (Nat.zero_add _).symm

/-- A slice of a stack of stacks of matrices read at an index. -/
theorem load_expert {a e b g : ℕ} (X : Vec Ideal ⟨4, ![a, e, b, g]⟩ .f32) (l : Fin a) (k : Fin e) (off : Fin 4 → Nat)
    (hoff : off = ![l.val, k.val, 0, 0]) (inb : ∀ ax, off ax + (![1, 1, b, g] : Fin 4 → Nat) ax ≤ (⟨4, ![a, e, b, g]⟩ : Shape).size ax)
    (i : Fin b) (j : Fin g) :
    View.ld X (Rect.unit (s := ⟨4, ![a, e, b, g]⟩) off ![1, 1, b, g] inb) (ix4 (0 : Fin 1) (0 : Fin 1) i j) = X (ix4 l k i j) := by
  subst hoff
  refine View.ld_unit_apply_of X _ _ inb _ _ fun ax => ?_
  match ax with
  | ⟨0, _⟩ => rfl
  | ⟨1, _⟩ => rfl
  | ⟨2, _⟩ => exact (Nat.zero_add _).symm
  | ⟨3, _⟩ => exact (Nat.zero_add _).symm

/-- A whole row read at an index. -/
theorem load_row {g : ℕ} (X : Vec Ideal ⟨2, ![1, g]⟩ .f32) (inb : ∀ ax, (![0, 0] : Fin 2 → Nat) ax + (![1, g] : Fin 2 → Nat) ax ≤ (⟨2, ![1, g]⟩ : Shape).size ax)
    (j : Fin g) : View.ld X (Rect.unit (s := ⟨2, ![1, g]⟩) ![0, 0] ![1, g] inb) (ix2 (0 : Fin 1) j) = X (ix2 (0 : Fin 1) j) := by
  refine View.ld_unit_apply_of X _ _ inb _ _ fun ax => ?_
  match ax with
  | ⟨0, _⟩ => rfl
  | ⟨1, _⟩ => exact (Nat.zero_add _).symm

variable (m : (ℓ : Loc nD τ sig) → Buf (Elt Ideal) ℓ) (c : Dev nD)

/-- Blocks that are slice `l` of the launch's arrays hold layer `l`'s parameters. -/
theorem holds_layer (l : Fin 2) (gw : Vec Ideal S1x128x8 .f32) (gb : Vec Ideal S1x8 .f32) (w1 : Vec Ideal S1x128x1024 .f32)
    (b1 : Vec Ideal S1x1x1024 .f32) (w2 : Fin 4 → Vec Ideal S1x1x256x128 .f32) (b2 : Fin 4 → Vec Ideal S1x1x1x128 .f32)
    (h4 : ∀ (d : Fin 128) (j : Fin 8), gw (ix3 (0 : Fin 1) d j) = V m c main_v6 (ix3 l d j))
    (h5 : ∀ j : Fin 8, gb (ix2 (0 : Fin 1) j) = V m c main_v9 (ix2 (0 : Fin 1) j))
    (h6 : ∀ (d : Fin 128) (q : Fin 1024), w1 (ix3 (0 : Fin 1) d q) = V m c main_v11 (ix3 l d q))
    (h7 : ∀ q : Fin 1024, b1 (ix3 (0 : Fin 1) (0 : Fin 1) q) = V m c main_v12 (ix3 l (0 : Fin 1) q))
    (h8 : ∀ (e : Fin 4) (h : Fin 256) (d : Fin 128), w2 e (ix4 (0 : Fin 1) (0 : Fin 1) h d) = V m c main_arg9 (ix4 l e h d))
    (h9 : ∀ (e : Fin 4) (d : Fin 128), b2 e (ix4 (0 : Fin 1) (0 : Fin 1) (0 : Fin 1) d) = V m c main_v13 (ix4 l e (0 : Fin 1) d)) :
    Holds ((kernelArgs m c).layer l) gw gb w1 b1 w2 b2 where
  hgw d e := ((h4 d _).trans (router_read m c l d _)).trans (dif_pos e.isLt)
  hgw_rest d j hj := ((h4 d j).trans (router_read m c l d j)).trans (dif_neg (by omega))
  hgb e := ((h5 _).trans (lanes_read m c _)).trans (if_pos e.isLt)
  hgb_rest j hj := ((h5 j).trans (lanes_read m c j)).trans (if_neg (by omega))
  hw1 e d h q hq := (h6 d q).trans (w1_read m c l e d h q hq)
  hb1 e h q hq := (h7 q).trans (b1_read m c l e h q hq)
  hw2 e h d := (h8 e h d).trans (congrFun (V_main_arg9 m c) _)
  hb2 e d := (h9 e d).trans (b2_read m c l e d)

/-- The first layer's blocks. -/
theorem holds_first : Holds ((kernelArgs m c).layer 0) (View.ld (V m c main_v6) r0_2) (View.ld (V m c main_v9) r0_3)
    (View.ld (V m c main_v11) r0_4) (View.ld (V m c main_v12) r0_5)
    ![View.ld (V m c main_arg9) r0_6, View.ld (V m c main_arg9) r0_8, View.ld (V m c main_arg9) r0_10, View.ld (V m c main_arg9) r0_12]
    ![View.ld (V m c main_v13) r0_7, View.ld (V m c main_v13) r0_9, View.ld (V m c main_v13) r0_11, View.ld (V m c main_v13) r0_13] := by
  refine holds_layer m c 0 _ _ _ _ _ _ (fun d j => load_matrix _ 0 _ rfl _ d j) (fun j => load_row _ _ j)
    (fun d q => load_matrix _ 0 _ rfl _ d q) (fun q => load_matrix _ 0 _ rfl _ 0 q) (fun e h d => ?_) (fun e d => ?_)
  · match e with
    | 0 => exact load_expert _ 0 0 _ rfl _ h d
    | 1 => exact load_expert _ 0 1 _ rfl _ h d
    | 2 => exact load_expert _ 0 2 _ rfl _ h d
    | 3 => exact load_expert _ 0 3 _ rfl _ h d
  · match e with
    | 0 => exact load_expert (b := 1) (V m c main_v13) (0 : Fin 2) (0 : Fin 4) _ rfl _ 0 d
    | 1 => exact load_expert (b := 1) (V m c main_v13) (0 : Fin 2) (1 : Fin 4) _ rfl _ 0 d
    | 2 => exact load_expert (b := 1) (V m c main_v13) (0 : Fin 2) (2 : Fin 4) _ rfl _ 0 d
    | 3 => exact load_expert (b := 1) (V m c main_v13) (0 : Fin 2) (3 : Fin 4) _ rfl _ 0 d

/-- The second layer's blocks. -/
theorem holds_second : Holds ((kernelArgs m c).layer 1) (View.ld (V m c main_v6) r0_14) (View.ld (V m c main_v9) r0_3)
    (View.ld (V m c main_v11) r0_15) (View.ld (V m c main_v12) r0_16)
    ![View.ld (V m c main_arg9) r0_17, View.ld (V m c main_arg9) r0_19, View.ld (V m c main_arg9) r0_21, View.ld (V m c main_arg9) r0_23]
    ![View.ld (V m c main_v13) r0_18, View.ld (V m c main_v13) r0_20, View.ld (V m c main_v13) r0_22, View.ld (V m c main_v13) r0_24] := by
  refine holds_layer m c 1 _ _ _ _ _ _ (fun d j => load_matrix _ 1 _ rfl _ d j) (fun j => load_row _ _ j)
    (fun d q => load_matrix _ 1 _ rfl _ d q) (fun q => load_matrix _ 1 _ rfl _ 0 q) (fun e h d => ?_) (fun e d => ?_)
  · match e with
    | 0 => exact load_expert _ 1 0 _ rfl _ h d
    | 1 => exact load_expert _ 1 1 _ rfl _ h d
    | 2 => exact load_expert _ 1 2 _ rfl _ h d
    | 3 => exact load_expert _ 1 3 _ rfl _ h d
  · match e with
    | 0 => exact load_expert (b := 1) (V m c main_v13) (1 : Fin 2) (0 : Fin 4) _ rfl _ 0 d
    | 1 => exact load_expert (b := 1) (V m c main_v13) (1 : Fin 2) (1 : Fin 4) _ rfl _ 0 d
    | 2 => exact load_expert (b := 1) (V m c main_v13) (1 : Fin 2) (2 : Fin 4) _ rfl _ 0 d
    | 3 => exact load_expert (b := 1) (V m c main_v13) (1 : Fin 2) (3 : Fin 4) _ rfl _ 0 d

/-- The output array after the run, at a real variable's prediction, is the answer. -/
theorem output_answer (H : (kernelArgs m c).Moderate) (t : Fin cfg0.N) (p : Fin 96) (n : Fin 21) :
    (dats m 0 c).arrAt 20 cfg0.N (ix3 (batchOf t) (outRow p (n.castLE (by decide))) (0 : Fin 1))
      = (kernelArgs m c).answer (batchOf t) p n := by
  rw [output_read]
  obtain ⟨⟨e2, e3, e4, e5, e6, e7⟩, ⟨e8, e9, e10, e11, e12, e13⟩, e14, e15, e16, e17, e18, e19⟩ := windows_whole m c t
  rw [e2, e3, e4, e5, e6, e7, e8, e9, e10, e11, e12, e13, e14, e15, e16, e17, e18, e19]
  obtain ⟨h14, h20, h21, h22, h23⟩ := rows_read m c
  refine (block_read (iblk m c 0 t) (iblk m c 1 t) _ _ _ _ _ _ _ _ _ _ _ _ _ _ _ _ _ _ ((kernelArgs m c).layer 0) ((kernelArgs m c).layer 1)
    (fun d => (kernelArgs m c).a13 (ix2 (0 : Fin 1) d)) (fun d => (kernelArgs m c).a14 (ix1 d)) (holds_first m c) (holds_second m c)
    (phase_weights_read m c) (phase_biases_read m c) (fun s => (kernelArgs m c).tok (batchOf t) n s) (n.castLE (by decide)) (fun s d => ?_)
    (fun s e => (H.first _ _ _ _).masked_lt) (fun s e => (H.second _ _ _ _).masked_lt) p).trans ?_
  · rw [window0, observations_read]
    simp only [h23]
    rw [V_main_arg4]
    rfl
  · rw [window1, times_read, h14, h22]
    simp only [h20, h21]
    rw [V_main_arg11, V_main_arg15, V_main_arg17, V_main_arg19]
    rfl

end Cert.Moe
-- ==== Proof.KernelRun.lean ====
module

public import proofs.«01_k».proof.Proof.KernelAnswer

/-! The kernel program's run: its result is the answer, its arguments are unchanged. -/

@[expose] public section

namespace Cert.Moe

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The result array is the output array with each block spread over times and variables, the padded variables cut off. -/
theorem tail_value : Pipeline.afterTail₀ cfgs (dats m) 0 (V0 m) [hostOps1] c main_v27
    = broadcastInDim S1x32x96x21 ![1, 2, 3] bcast_S32x96x21_S1x32x96x21_1_2_3
        (extractStridedSlice S32x96x21 ![0, 0, 0] (shapeCast S32x96x24 ((dats m 0 c).arrAt 20 cfg0.N) shapeCasts_S32x2304x1_S32x96x24)
          slices_S32x96x24_S32x96x21_0_0_0) := by
  have hw : Pipeline.withArrays cfg0.spec c (V0 m c) (fun w => (dats m 0 c).arrAt w cfg0.N) (Proc.devRef .tc main_v24)
      = (dats m 0 c).arrAt 20 cfg0.N :=
    Pipeline.withArrays_arr spec0 (by decide) c (V0 m c) (fun w => (dats m 0 c).arrAt w cfg0.N) 20
  rw [← hw]
  unfold Pipeline.afterTail₀
  generalize Pipeline.withArrays (cfgs 0).spec c (V0 m c) (fun w => (dats m 0 c).arrAt w (cfgs 0).N) = U
  dsimp only [hostOps1, List.flatten_cons, List.flatten_nil, List.cons_append, List.nil_append, List.append_nil]
  after_results
  rfl

/-- The output array so spread and cut, read at an index. -/
theorem spread_read (X : Arr ![32, 2304, 1]) (i : (⟨4, ![1, 32, 96, 21]⟩ : Shape).Idx) :
    broadcastInDim S1x32x96x21 ![1, 2, 3] bcast_S32x96x21_S1x32x96x21_1_2_3
        (extractStridedSlice S32x96x21 ![0, 0, 0] (shapeCast S32x96x24 X shapeCasts_S32x2304x1_S32x96x24) slices_S32x96x24_S32x96x21_0_0_0) i
      = X (ix3 (i 1 : Fin 32) (outRow (i 2) ((i 3 : Fin 21).castLE (by decide))) (0 : Fin 1)) := by
  refine (broadcastInDim_apply _ bcast_S32x96x21_S1x32x96x21_1_2_3 _ i (ix3 (i 1 : Fin 32) (i 2 : Fin 96) (i 3 : Fin 21)) fun ax => ?_).trans ?_
  · match ax with
    | ⟨0, _⟩ => rfl
    | ⟨1, _⟩ => rfl
    | ⟨2, _⟩ => rfl
  refine (extractStridedSlice_apply _ _ _ _ (ix3 (i 1 : Fin 32) (i 2 : Fin 96) ((i 3 : Fin 21).castLE (by decide) : Fin 24)) fun ax => ?_).trans ?_
  · match ax with
    | ⟨0, _⟩ => exact (Nat.zero_add _).symm
    | ⟨1, _⟩ => exact (Nat.zero_add _).symm
    | ⟨2, _⟩ => exact (Nat.zero_add _).symm
  refine shapeCast_apply (s := ⟨3, ![32, 2304, 1]⟩) X _ _ _ ?_
  refine (Shape.rowMajor_val_three _).trans (Eq.trans ?_ (Shape.rowMajor_val_three (d := ![32, 96, 24]) _).symm)
  show ((i 1).val * 2304 + ((i 2).val * 24 + (i 3).val)) * 1 + 0 = ((i 1).val * 96 + (i 2).val) * 24 + (i 3).val
  ring

/-- The result after the host's last operations. -/
theorem tail_answer (H : (kernelArgs m c).Moderate) :
    Pipeline.afterTail₀ cfgs (dats m) 0 (V0 m) [hostOps1] c main_v27 = (kernelArgs m c).result := by
  rw [tail_value]
  funext i
  refine (spread_read _ i).trans ?_
  exact output_answer m c H ((i 1 : Fin 32).cast (by decide +kernel)) (i 2) (i 3)

/-- With moderate arguments every run ends with the answer in the result array and with the arguments as they were. -/
theorem kernel_run (H : ∀ c, (kernelArgs m c).Moderate) :
    θ_run defs (onTc (τ := τ) (main (F := Ideal))) ⟨m, fun _ => 0, ρ⟩ fun r => ∀ c : Dev nD,
      r.2.mem ((c : Thread nD τ).loc main_v27) = (kernelArgs m c).result
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => by
    have rest : ∀ {b : Ref sig .tc} {v}, Pipeline.afterTail₀ cfgs (dats m) 0 (V0 m) [hostOps1] c b = v → (hs : b.isScoped = false) →
        (∀ w, Pipeline.arrRef spec0 w ≠ b) → r.2.mem ((c : Thread nD τ).loc b) = v :=
      fun {b} {v} e hs hw => ((h c).2 b (Pipeline.mem_restRefs_of b hs hw)).trans e
    exact ⟨rest (tail_answer m c (H c)) (by decide) (by decide),
      rest (W_main_arg0 m (dats m) c) (by decide) (by decide),
      rest (W_main_arg1 m (dats m) c) (by decide) (by decide),
      rest (W_main_arg2 m (dats m) c) (by decide) (by decide),
      rest (W_main_arg3 m (dats m) c) (by decide) (by decide),
      ((h c).1 2).trans (((dats m 0 c).arrAt_in 2 rfl _).trans ((A_eq m c 2).trans (V_main_arg4 m c))),
      rest (W_main_arg5 m (dats m) c) (by decide) (by decide),
      rest (W_main_arg6 m (dats m) c) (by decide) (by decide),
      rest (W_main_arg7 m (dats m) c) (by decide) (by decide),
      rest (W_main_arg8 m (dats m) c) (by decide) (by decide),
      ((h c).1 8).trans (((dats m 0 c).arrAt_in 8 rfl _).trans ((A_eq m c 8).trans (V_main_arg9 m c))),
      rest (W_main_arg10 m (dats m) c) (by decide) (by decide),
      ((h c).1 10).trans (((dats m 0 c).arrAt_in 10 rfl _).trans ((A_eq m c 10).trans (V_main_arg11 m c))),
      rest (W_main_arg12 m (dats m) c) (by decide) (by decide),
      rest (W_main_arg13 m (dats m) c) (by decide) (by decide),
      rest (W_main_arg14 m (dats m) c) (by decide) (by decide),
      ((h c).1 14).trans (((dats m 0 c).arrAt_in 14 rfl _).trans ((A_eq m c 14).trans (V_main_arg15 m c))),
      rest (W_main_arg16 m (dats m) c) (by decide) (by decide),
      ((h c).1 16).trans (((dats m 0 c).arrAt_in 16 rfl _).trans ((A_eq m c 16).trans (V_main_arg17 m c))),
      rest (W_main_arg18 m (dats m) c) (by decide) (by decide),
      ((h c).1 18).trans (((dats m 0 c).arrAt_in 18 rfl _).trans ((A_eq m c 18).trans (V_main_arg19 m c))),
      rest (W_main_arg20 m (dats m) c) (by decide) (by decide)⟩) (run_main m ρ)

end Cert.Moe
-- ==== Proof.RefTop.lean ====
module

public import Idealize.ShloMosaic.Lib.SortPrefix
public import proofs.«01_k».proof.Proof.Answer

/-! The two greatest of four scores as a stable sort finds them: the first and the second choice. -/

@[expose] public section

namespace Cert.Moe.Ref

open Idealize.ShloMosaic Idealize.ShloMosaic.ValueIdx

/-- A stable sort of positions in order asks only whether a later position goes before an earlier one. -/
theorem stableSort_later {n : ℕ} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- The same of where each sorted position comes from. -/
theorem sortedFrom_later {n : ℕ} (R B : Fin n → Fin n → Bool) (h : ∀ a b, a < b → R b a = B b a) :
    sortedFrom R = sortedFrom B := by
  funext k
  have e : sortPositions n R = sortPositions n B := stableSort_later R B h _ (List.pairwise_lt_finRange n)
  unfold sortedFrom
  rw [List.get_of_eq e]
  rfl

/-- The first choice and the second. -/
noncomputable def chosen (l : Fin 4 → EReal) : Fin 2 → Fin 4 := ![first l, second l]

/-- The two choices differ. -/
theorem chosen_injective (l : Fin 4 → EReal) : Function.Injective (chosen l) := by
  have h := (second_spec l).1
  intro i j hij
  match i, j with
  | 0, 0 => rfl
  | 1, 1 => rfl
  | 0, 1 => exact absurd hij.symm h
  | 1, 0 => exact absurd hij h

/-- A later position goes before an earlier one when its score is greater. -/
theorem greatest_two (l : Fin 4 → EReal) (i : Fin 2) :
    sortedFrom (fun k k' : Fin 4 => decide (l k' < l k)) (i.castLE (by decide)) = chosen l i := by
  have hB := StrictTotalBefore.of_key_then_position (fun a b : EReal => decide (b < a)) l (fun a => by simp)
    (fun a b c hab hbc => by simp only [decide_eq_true_eq] at *; exact hbc.trans hab)
    (fun a b => by simp only [decide_eq_true_eq]; rcases lt_trichotomy a b with h | h | h <;> tauto)
  have hf := first_spec l
  have hs := second_spec l
  rw [sortedFrom_later _ (fun k k' : Fin 4 => decide (l k' < l k) || (decide (l k = l k') && decide (k < k'))) fun a b hab => by
    simp [not_lt.mpr hab.le]]
  have far : ∀ p q : Fin 4, (l p ≤ l q ∧ (p < q → l p < l q)) →
      (decide (l q < l p) || (decide (l p = l q) && decide (p < q))) = false := fun p q h => by
    simp only [Bool.or_eq_false_iff, Bool.and_eq_false_iff, decide_eq_false_iff_not]
    refine ⟨not_lt.mpr h.1, ?_⟩
    by_cases hpq : p < q
    · exact Or.inl (h.2 hpq).ne
    · exact Or.inr hpq
  refine hB.sortedFrom_eq_of_prefix (by decide) (chosen l) (chosen_injective l) (fun i j hij => ?_) (fun i p hp => ?_) i
  · obtain rfl : i = 0 := by omega
    obtain rfl : j = 1 := by omega
    exact far _ _ (hf _)
  · match i with
    | 0 => exact far _ _ (hf p)
    | 1 => exact far _ _ (hs.2 p fun e => hp 0 e.symm)

variable {N : ℕ} (x : Arr ![N, 4]) (h : (⟨2, ![N, 4]⟩ : Shape).Slices (fun _ => 0) ⟨2, ![N, 2]⟩) (r : Fin N) (k : Fin 2)

/-- The source of a row's sorted positions. -/
theorem row_sorted :
    sortedFrom (fun a a' : Fin 4 => FloatOps.cmpfTotal (F := Ideal) (φ := .f32) .gt (x (ix2 r a)) (x (ix2 r a')) == 1#1) (k.castLE (by decide))
      = chosen (fun e => x (ix2 r e)) k := by
  rw [← greatest_two]
  refine congrArg (fun R => sortedFrom R _) (funext fun a => funext fun a' => ?_)
  show (BitVec.ofBool (decide (x (ix2 r a') < x (ix2 r a))) == 1#1) = _
  cases decide (x (ix2 r a') < x (ix2 r a)) <;> rfl

/-- One index moved along its second axis. -/
theorem along_lane (c : Fin 4) (a : Fin 4) : (ix2 r c : (⟨2, ![N, 4]⟩ : Shape).Idx).along (1 : Fin 2) a = ix2 r a := by
  funext ax
  match ax with
  | ⟨0, _⟩ => rfl
  | ⟨1, _⟩ => rfl

/-- The sorted rows' source positions, at an index. -/
noncomputable def rowSource (j : (⟨2, ![N, 4]⟩ : Shape).Idx) : Fin 4 :=
  sortedFrom (fun a a' : Fin 4 => FloatOps.cmpfTotal (F := Ideal) (φ := .f32) .gt (x (j.along (1 : Fin 2) a)) (x (j.along (1 : Fin 2) a')) == 1#1)
    (j 1)

theorem rowSource_row : rowSource x (ix2 r (k.castLE (by decide) : Fin 4)) = chosen (fun e => x (ix2 r e)) k := by
  refine Eq.trans ?_ (row_sorted x r k)
  unfold rowSource
  simp only [along_lane]
  rfl

/-- The values of a row's top two are the scores of the choices. -/
theorem top_values : (Host.topK ⟨2, ![N, 2]⟩ 1 (FloatOps.cmpfTotal (F := Ideal) (φ := .f32) .gt) x h).1 (ix2 r k)
    = x (ix2 r (chosen (fun e => x (ix2 r e)) k)) := by
  refine (extractStridedSlice_apply (fun _ => 0) (fun j => x (j.along (1 : Fin 2) (rowSource x j))) h (ix2 r k)
    (ix2 r (k.castLE (by decide) : Fin 4)) fun ax => ?_).trans ?_
  · match ax with
    | ⟨0, _⟩ => exact (Nat.zero_add _).symm
    | ⟨1, _⟩ => exact (Nat.zero_add _).symm
  · rw [rowSource_row, along_lane]

/-- The indices of a row's top two are the numbers of the choices. -/
theorem top_indices : (Host.topK ⟨2, ![N, 2]⟩ 1 (FloatOps.cmpfTotal (F := Ideal) (φ := .f32) .gt) x h).2 (ix2 r k)
    = BitVec.ofNat 32 (chosen (fun e => x (ix2 r e)) k).val := by
  refine (extractStridedSlice_apply (fun _ => 0)
    (fun j => iotaInDim ⟨2, ![N, 4]⟩ 32 (1 : Fin 2) (j.along (1 : Fin 2) (rowSource x j))) h (ix2 r k)
    (ix2 r (k.castLE (by decide) : Fin 4)) fun ax => ?_).trans ?_
  · match ax with
    | ⟨0, _⟩ => exact (Nat.zero_add _).symm
    | ⟨1, _⟩ => exact (Nat.zero_add _).symm
  · rw [rowSource_row, along_lane]
    rfl

end Cert.Moe.Ref
-- ==== Proof.RefReads.lean ====
module

public import Idealize.ShloMosaic.Lib.StackMember
public import Idealize.ShloMosaic.Lib.Routing.OpsSet
public import proofs.«01_k».proof.Proof.RefTop
public import proofs.«01_k».proof.Proof.Reads

/-! Host array operations read at one index, in the shapes the reference uses them at. -/

@[expose] public section

namespace Cert.Moe.Ref

open Idealize.ShloMosaic Idealize.ShloMosaic.ValueIdx

variable {α : Type}

/-- A scalar spread over an array. -/
theorem host_scalar {t : Shape} (dims : Fin 0 → Fin t.rank) (h : (⟨0, ![]⟩ : Shape).BroadcastsInDim t dims) (x : (⟨0, ![]⟩ : Shape).Idx → α)
    (j : t.Idx) (k : (⟨0, ![]⟩ : Shape).Idx) : broadcastInDim t dims h x j = x k :=
  broadcastInDim_apply dims h x j k fun a => a.elim0

/-- A vector stood up as a column. -/
theorem host_column {N : ℕ} (h : (⟨1, ![N]⟩ : Shape).BroadcastsInDim ⟨2, ![N, 1]⟩ ![0]) (x : (⟨1, ![N]⟩ : Shape).Idx → α)
    (r : Fin N) (c : Fin 1) : broadcastInDim ⟨2, ![N, 1]⟩ ![0] h x (ix2 r c) = x (ix1 r) :=
  broadcastInDim_apply _ h x _ _ fun ax => by
    match ax with
    | ⟨0, _⟩ =>
      show r.val = if N = 1 then 0 else r.val
      split
      · have := r.isLt; omega
      · rfl

/-- A vector laid down as a row. -/
theorem host_row {N : ℕ} (h : (⟨1, ![N]⟩ : Shape).BroadcastsInDim ⟨2, ![1, N]⟩ ![1]) (x : (⟨1, ![N]⟩ : Shape).Idx → α)
    (r : Fin 1) (c : Fin N) : broadcastInDim ⟨2, ![1, N]⟩ ![1] h x (ix2 r c) = x (ix1 c) :=
  broadcastInDim_apply _ h x _ _ fun ax => by
    match ax with
    | ⟨0, _⟩ =>
      show c.val = if N = 1 then 0 else c.val
      split
      · have := c.isLt; omega
      · rfl

/-- A column spread along rows. -/
theorem host_lanes {N M : ℕ} (h : (⟨2, ![N, 1]⟩ : Shape).BroadcastsInDim ⟨2, ![N, M]⟩ ![0, 1]) (x : (⟨2, ![N, 1]⟩ : Shape).Idx → α)
    (r : Fin N) (c : Fin M) : broadcastInDim ⟨2, ![N, M]⟩ ![0, 1] h x (ix2 r c) = x (ix2 r (0 : Fin 1)) :=
  broadcastInDim_apply _ h x _ _ fun ax => by
    match ax with
    | ⟨0, _⟩ =>
      show r.val = if N = 1 then 0 else r.val
      split
      · have := r.isLt; omega
      · rfl
    | ⟨1, _⟩ => rfl

/-- A row spread down columns. -/
theorem host_rows_down {N M : ℕ} (h : (⟨2, ![1, M]⟩ : Shape).BroadcastsInDim ⟨2, ![N, M]⟩ ![0, 1]) (x : (⟨2, ![1, M]⟩ : Shape).Idx → α)
    (r : Fin N) (c : Fin M) : broadcastInDim ⟨2, ![N, M]⟩ ![0, 1] h x (ix2 r c) = x (ix2 (0 : Fin 1) c) :=
  broadcastInDim_apply _ h x _ _ fun ax => by
    match ax with
    | ⟨0, _⟩ => rfl
    | ⟨1, _⟩ =>
      show c.val = if M = 1 then 0 else c.val
      split
      · have := c.isLt; omega
      · rfl

/-- A unit axis put last. -/
theorem host_unit_last {N M : ℕ} (h : (⟨2, ![N, M]⟩ : Shape).BroadcastsInDim ⟨3, ![N, M, 1]⟩ ![0, 1]) (x : (⟨2, ![N, M]⟩ : Shape).Idx → α)
    (r : Fin N) (c : Fin M) (u : Fin 1) : broadcastInDim ⟨3, ![N, M, 1]⟩ ![0, 1] h x (ix3 r c u) = x (ix2 r c) :=
  broadcastInDim_apply _ h x _ _ fun ax => by
    match ax with
    | ⟨0, _⟩ =>
      show r.val = if N = 1 then 0 else r.val
      split
      · have := r.isLt; omega
      · rfl
    | ⟨1, _⟩ =>
      show c.val = if M = 1 then 0 else c.val
      split
      · have := c.isLt; omega
      · rfl

/-- Two one-deep arrays side by side: the first. -/
theorem concat_first {N M : ℕ} (x y : (⟨3, ![N, M, 1]⟩ : Shape).Idx → α)
    (h : Shape.Concatenates [⟨3, ![N, M, 1]⟩, ⟨3, ![N, M, 1]⟩] ⟨3, ![N, M, 2]⟩ (2 : Fin 3)) (r : Fin N) (c : Fin M) :
    concatenate ⟨3, ![N, M, 2]⟩ (2 : Fin 3) [⟨⟨3, ![N, M, 1]⟩, x⟩, ⟨⟨3, ![N, M, 1]⟩, y⟩] h (ix3 r c (0 : Fin 2)) = x (ix3 r c (0 : Fin 1)) :=
  concatenate_pair_apply_left _ x y h _ rfl _ fun b => by
    match b with
    | ⟨0, _⟩ => rfl
    | ⟨1, _⟩ => rfl
    | ⟨2, _⟩ => rfl

/-- Two one-deep arrays side by side: the second. -/
theorem concat_second {N M : ℕ} (x y : (⟨3, ![N, M, 1]⟩ : Shape).Idx → α)
    (h : Shape.Concatenates [⟨3, ![N, M, 1]⟩, ⟨3, ![N, M, 1]⟩] ⟨3, ![N, M, 2]⟩ (2 : Fin 3)) (r : Fin N) (c : Fin M) :
    concatenate ⟨3, ![N, M, 2]⟩ (2 : Fin 3) [⟨⟨3, ![N, M, 1]⟩, x⟩, ⟨⟨3, ![N, M, 1]⟩, y⟩] h (ix3 r c (1 : Fin 2)) = y (ix3 r c (0 : Fin 1)) :=
  concatenate_pair_apply_right _ x y h _ rfl rfl _ (fun b hb => by
    match b with
    | ⟨0, _⟩ => rfl
    | ⟨1, _⟩ => rfl
    | ⟨2, _⟩ => exact absurd rfl hb) rfl

/-- An index word of a number that is not negative stays as it is where negative ones wrap. -/
theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- Updates at pairs of index words, each row's going to its own row at columns that differ: an element whose column is named holds
    that update, any other what was there. -/
theorem scatter_pairs {N : ℕ} (hN : N < 2 ^ 31) (d : ScatterDims ⟨2, ![N, 4]⟩ ⟨3, ![N, 2, 2]⟩ ⟨2, ![N, 2]⟩) (hiw : d.insertedWindowDims = [0, 1])
    (hsd : d.scatterDimsToOperandDims = [0, 1]) (hivd : d.indexVectorDim = 2) (x : (⟨2, ![N, 4]⟩ : Shape).Idx → α)
    (idx : IVec ⟨3, ![N, 2, 2]⟩ 32) (upd : (⟨2, ![N, 2]⟩ : Shape).Idx → α) (col : Fin N → Fin 2 → Fin 4)
    (h0 : ∀ r k, idx (ix3 r k (0 : Fin 2)) = BitVec.ofNat 32 r.val) (h1 : ∀ r k, idx (ix3 r k (1 : Fin 2)) = BitVec.ofNat 32 (col r k).val)
    (hcol : ∀ r, Function.Injective (col r)) (r : Fin N) (e : Fin 4) :
    Host.scatter d (fun _ b => b) x idx upd (ix2 r e)
      = if e = col r 0 then upd (ix2 r (0 : Fin 2)) else if e = col r 1 then upd (ix2 r (1 : Fin 2)) else x (ix2 r e) := by
  have lands : ∀ (r' : Fin N) (k : Fin 2), d.resultIdx? (ix2 r' k) idx = some (ix2 r e) ↔ r' = r ∧ col r' k = e := fun r' k => by
    refine (Routing.scatter_lands2 d hiw hsd hivd idx r' k r e).trans ?_
    have a0 : (idx (ix3 r' k (0 : Fin 2))).toInt = r'.val := by
      rw [h0, StableHlo.Predicate.toInt_ofNat_small _ (r'.isLt.trans hN)]
    have a1 : (idx (ix3 r' k (1 : Fin 2))).toInt = (col r' k).val := by
      rw [h1, StableHlo.Predicate.toInt_ofNat_small _ (by omega)]
    constructor
    · rintro ⟨p, q⟩
      exact ⟨Fin.ext (by have := a0.symm.trans p; omega), Fin.ext (by have := a1.symm.trans q; omega)⟩
    · rintro ⟨p, q⟩
      exact ⟨a0.trans (by rw [p]), a1.trans (by rw [q])⟩
  have pair : ∀ k : (⟨2, ![N, 2]⟩ : Shape).Idx, ∃ (a : Fin N) (b : Fin 2), k = ix2 a b := fun k => by
    refine ⟨k 0, k 1, funext fun ax => ?_⟩
    match ax with
    | ⟨0, _⟩ => rfl
    | ⟨1, _⟩ => rfl
  have hit : ∀ k : Fin 2, col r k = e → Host.scatter d (fun _ b => b) x idx upd (ix2 r e) = upd (ix2 r k) := fun k hk => by
    refine Routing.scatter_set_hit d x idx upd (ix2 r e) _ (fun q hq => ?_) (ix2 r k) ((lands r k).2 ⟨rfl, hk⟩)
    obtain ⟨a, b, rfl⟩ := pair q
    obtain ⟨rfl, p2⟩ := (lands _ _).1 hq
    rw [hcol a (p2.trans hk.symm)]
  split
  · rename_i he; exact hit 0 he.symm
  · rename_i he
    split
    · rename_i he'; exact hit 1 he'.symm
    · rename_i he'
      refine Routing.scatter_set_miss d x idx upd _ fun q hq => ?_
      obtain ⟨a, b, rfl⟩ := pair q
      obtain ⟨rfl, p2⟩ := (lands _ _).1 hq
      match b with
      | 0 => exact he p2.symm
      | 1 => exact he' p2.symm

/-- The maximum of two from minus infinity. -/
theorem fold_two_max (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

/-- The host's maximum of a row of two from minus infinity. -/
theorem host_max_two {N : ℕ} {u : Shape} (v : (⟨2, ![N, 2]⟩ : Shape).Idx → EReal) (init : u.Idx → EReal)
    (h' : (⟨2, ![N, 2]⟩ : Shape).ReducesTo [1] ⟨1, ![N]⟩) (h : (⟨2, ![N, 2]⟩ : Shape).Reduces [1] ⟨1, ![N]⟩) (hu : 0 < u.numel)
    (hi : init (Shape.Idx.first hu) = ⊥) (r : Fin N) :
    Host.reduce max v init h' hu (ix1 r) = max (v (ix2 r (0 : Fin 2))) (v (ix2 r (1 : Fin 2))) := by
  refine (Host.reduce_eq_fold_single max v init h' h hu (ix1 r)).trans ?_
  rw [hi]
  refine Eq.trans ?_ (fold_two_max fun k => v (ix2 r k))
  exact congrArg (fun f : Fin 2 → EReal => (Finset.univ : Finset (Fin 2)).fold max ⊥ f) (funext fun c => congrArg v (lift_lane h r c))

/-- The host's sum of a row of two from zero. -/
theorem host_sum_two {N : ℕ} (v : (⟨2, ![N, 2]⟩ : Shape).Idx → EReal) (init : EReal)
    (h' : (⟨2, ![N, 2]⟩ : Shape).ReducesTo [1] ⟨1, ![N]⟩) (h : (⟨2, ![N, 2]⟩ : Shape).Reduces [1] ⟨1, ![N]⟩) (hi : init = 0) (r : Fin N) :
    Ideal.hostReduceAdd h' v init (ix1 r) = v (ix2 r (0 : Fin 2)) + v (ix2 r (1 : Fin 2)) := by
  rw [Ideal.hostReduceAdd_single h' h, hi, zero_add]
  refine (Finset.sum_congr rfl fun c _ => congrArg v (lift_lane h r c)).trans ?_
  exact Fin.sum_univ_two fun c : Fin 2 => v (ix2 r c)

/-- The host's quotient of two arrays, at an index. -/
theorem host_divf_apply {s : Shape} (x y : FVec Ideal s .f32) (i : s.Idx) : Host.divf x y i = Ideal.div (x i) (y i) := rfl

end Cert.Moe.Ref
-- ==== Proof.RefRouter.lean ====
module

public import proofs.«01_k».proof.Proof.Gen.ReferenceIdeal.Read
public import proofs.«01_k».proof.Proof.RefReads

/-! The reference's router: from the scores of all tokens, the array of every expert's weight. -/

@[expose] public section

namespace Cert.Moe.Ref

open Idealize.ShloMosaic Idealize.ShloMosaic.TcCoe Idealize.ShloMosaic.ValueIdx
open Cert.ReferenceIdeal Cert.ReferenceIdeal.Gen

/-- The two greatest scores of every row. -/
noncomputable def refValues (x : FVec Ideal S64512x4 .f32) : FVec Ideal S64512x2 .f32 :=
  (Host.topK S64512x2 1 (FloatOps.cmpfTotal .gt) x sliceFits_S64512x4_S64512x2).1

/-- The experts that have them. -/
noncomputable def refIndices (x : FVec Ideal S64512x4 .f32) : IVec S64512x2 32 :=
  (Host.topK S64512x2 1 (FloatOps.cmpfTotal .gt) x sliceFits_S64512x4_S64512x2).2

/-- The exponentials of the values less their row's greatest. -/
noncomputable def refExps (v : FVec Ideal S64512x2 .f32) : FVec Ideal S64512x2 .f32 :=
  Host.exp (subf v (broadcastInDim S64512x2 ![0, 1] bcast_S64512x1_S64512x2_0_1 (broadcastInDim S64512x1 ![0] bcast_S64512_S64512x1_0
    (maximumf (broadcastInDim S64512 ![] bcast_S_S64512 (constant S_ .f32 0xFF800000#32))
      (Host.reduce FloatOps.maximumf v (constant S_ .f32 0xFF800000#32) reducesTo_S64512x2_S64512_d1 h_S_)))))

/-- Each row's exponentials divided by their sum. -/
noncomputable def refWeights (v : FVec Ideal S64512x2 .f32) : FVec Ideal S64512x2 .f32 :=
  Host.divf (refExps v) (broadcastInDim S64512x2 ![0, 1] bcast_S64512x1_S64512x2_0_1 (broadcastInDim S64512x1 ![0] bcast_S64512_S64512x1_0
    (Host.reduceAdd (refExps v) (constant S_ .f32 0x00000000#32) reducesTo_S64512x2_S64512_d1 h_S_)))

/-- Each row's own number, a negative one wrapped. -/
noncomputable def refRowWords : IVec S64512x1 32 :=
  select (cmpi .slt (broadcastInDim S64512x1 ![0] bcast_S64512_S64512x1_0 (iotaInDim S64512 32 0))
      (broadcastInDim S64512x1 ![] bcast_S_S64512x1 (constantI S_ 32 0#32)))
    (addi (broadcastInDim S64512x1 ![0] bcast_S64512_S64512x1_0 (iotaInDim S64512 32 0))
      (broadcastInDim S64512x1 ![] bcast_S_S64512x1 (constantI S_ 32 64512#32)))
    (broadcastInDim S64512x1 ![0] bcast_S64512_S64512x1_0 (iotaInDim S64512 32 0))

/-- The experts' numbers, a negative one wrapped. -/
noncomputable def refExpertWords (i : IVec S64512x2 32) : IVec S64512x2 32 :=
  select (cmpi .slt i (broadcastInDim S64512x2 ![] bcast_S_S64512x2 (constantI S_ 32 0#32)))
    (addi i (broadcastInDim S64512x2 ![] bcast_S_S64512x2 (constantI S_ 32 4#32))) i

/-- Pairs of a row's number and an expert's. -/
noncomputable def refPairs (i : IVec S64512x2 32) : IVec S64512x2x2 32 :=
  concatenate S64512x2x2 2
    [⟨S64512x2x1, broadcastInDim S64512x2x1 ![0, 1] bcast_S64512x2_S64512x2x1_0_1
        (broadcastInDim S64512x2 ![0, 1] bcast_S64512x1_S64512x2_0_1 refRowWords)⟩,
      ⟨S64512x2x1, broadcastInDim S64512x2x1 ![0, 1] bcast_S64512x2_S64512x2x1_0_1 (refExpertWords i)⟩]
    concatenates_S64512x2x1_S64512x2x1_S64512x2x2_d2

/-- Every expert's weight: the two weights of a row put at its two experts, zero elsewhere. -/
noncomputable def refGates (x : FVec Ideal S64512x4 .f32) : FVec Ideal S64512x4 .f32 :=
  Host.scatter scatter_S64512x4_S64512x2x2_S64512x2_n_01_01_2 (fun _ b => b)
    (broadcastInDim S64512x4 ![] bcast_S_S64512x4 (constant S_ .f32 0x00000000#32)) (refPairs (refIndices x)) (refWeights (refValues x))

/-- The index of a row that a reduction along lanes folds over, as the host's reductions name it. -/
theorem reduces_lanes : S64512x2.Reduces [1] S64512 := by decide

variable (v : FVec Ideal S64512x2 .f32) (r : Fin 64512)

theorem row_max_read :
    Host.reduce FloatOps.maximumf v (constant S_ .f32 0xFF800000#32) reducesTo_S64512x2_S64512_d1 h_S_ (ix1 r)
      = max (v (ix2 r (0 : Fin 2))) (v (ix2 r (1 : Fin 2))) := by
  exact host_max_two (N := 64512) v (constant (F := Ideal) S_ .f32 0xFF800000#32) reducesTo_S64512x2_S64512_d1 reduces_lanes h_S_ lit_bot r

theorem exps_read (k : Fin 2) :
    refExps v (ix2 r k) = Ideal.exp (v (ix2 r k) - max (v (ix2 r (0 : Fin 2))) (v (ix2 r (1 : Fin 2)))) := by
  refine congrArg (fun z => Ideal.exp (v (ix2 r k) - z)) ?_
  refine (host_lanes (N := 64512) (M := 2) _ _ r k).trans ((host_column (N := 64512) _ _ r 0).trans ?_)
  refine Eq.trans (congrArg₂ max ?_ (row_max_read v r)) (max_bot_left _)
  exact (host_scalar _ _ _ _ ix0).trans lit_bot

theorem row_sum_read (y : FVec Ideal S64512x2 .f32) :
    Host.reduceAdd y (constant S_ .f32 0x00000000#32) reducesTo_S64512x2_S64512_d1 h_S_ (ix1 r)
      = y (ix2 r (0 : Fin 2)) + y (ix2 r (1 : Fin 2)) := by
  simp only [Host.reduceAdd, Ideal.hostReduceAdd_def]
  exact host_sum_two (N := 64512) y _ reducesTo_S64512x2_S64512_d1 reduces_lanes lit_zero r

theorem weights_read (k : Fin 2) :
    refWeights v (ix2 r k) = Ideal.div (refExps v (ix2 r k)) (refExps v (ix2 r (0 : Fin 2)) + refExps v (ix2 r (1 : Fin 2))) := by
  unfold refWeights
  rw [host_divf_apply]
  refine congrArg (fun z => Ideal.div (refExps v (ix2 r k)) z) ?_
  refine (host_lanes (N := 64512) (M := 2) _ _ r k).trans ((host_column (N := 64512) _ _ r 0).trans ?_)
  exact row_sum_read r (refExps v)

theorem row_words_read (c : Fin 1) : refRowWords (ix2 r c) = BitVec.ofNat 32 r.val := by
  have e : broadcastInDim S64512x1 ![0] bcast_S64512_S64512x1_0 (iotaInDim S64512 32 0) (ix2 r c) = BitVec.ofNat 32 r.val :=
    (host_column (N := 64512) _ _ r c).trans rfl
  have z : broadcastInDim S64512x1 ![] bcast_S_S64512x1 (constantI S_ 32 0#32) (ix2 r c) = 0#32 := host_scalar _ _ _ _ ix0
  show Scalar.select (IntOp.cmpi .slt (broadcastInDim S64512x1 ![0] bcast_S64512_S64512x1_0 (iotaInDim S64512 32 0) (ix2 r c))
    (broadcastInDim S64512x1 ![] bcast_S_S64512x1 (constantI S_ 32 0#32) (ix2 r c))) _
    (broadcastInDim S64512x1 ![0] bcast_S64512_S64512x1_0 (iotaInDim S64512 32 0) (ix2 r c)) = _
  rw [e, z]
  exact wrap_small _ (by omega) _

theorem expert_words_read (i : IVec S64512x2 32) (k : Fin 2) (e : Fin 4) (h : i (ix2 r k) = BitVec.ofNat 32 e.val) :
    refExpertWords i (ix2 r k) = BitVec.ofNat 32 e.val := by
  have z : broadcastInDim S64512x2 ![] bcast_S_S64512x2 (constantI S_ 32 0#32) (ix2 r k) = 0#32 := host_scalar _ _ _ _ ix0
  show Scalar.select (IntOp.cmpi .slt (i (ix2 r k)) (broadcastInDim S64512x2 ![] bcast_S_S64512x2 (constantI S_ 32 0#32) (ix2 r k))) _
    (i (ix2 r k)) = _
  rw [z, h]
  exact wrap_small _ (by omega) _

variable (x : FVec Ideal S64512x4 .f32)

/-- The scores of a row. -/
def rowScores : Fin 4 → EReal := fun e => x (ix2 r e)

theorem values_read (k : Fin 2) : refValues x (ix2 r k) = rowScores r x (chosen (rowScores r x) k) :=
  top_values (N := 64512) x _ r k

theorem indices_read (k : Fin 2) : refIndices x (ix2 r k) = BitVec.ofNat 32 (chosen (rowScores r x) k).val :=
  top_indices (N := 64512) x _ r k

/-- A row's weights put at its experts. -/
theorem gates_spread (e : Fin 4) : refGates x (ix2 r e)
    = if e = first (rowScores r x) then refWeights (refValues x) (ix2 r (0 : Fin 2))
      else if e = second (rowScores r x) then refWeights (refValues x) (ix2 r (1 : Fin 2)) else 0 := by
  refine (scatter_pairs (N := 64512) (by norm_num) scatter_S64512x4_S64512x2x2_S64512x2_n_01_01_2 rfl rfl rfl _ (refPairs (refIndices x))
    (refWeights (refValues x)) (fun r => chosen (rowScores r x)) (fun r k => ?_) (fun r k => ?_) (fun r => chosen_injective _) r e).trans ?_
  · refine (concat_first (N := 64512) (M := 2) _ _ _ r k).trans ((host_unit_last (N := 64512) (M := 2) _ _ r k 0).trans ?_)
    exact (host_lanes (N := 64512) (M := 2) _ _ r k).trans (row_words_read r 0)
  · refine (concat_second (N := 64512) (M := 2) _ _ _ r k).trans ((host_unit_last (N := 64512) (M := 2) _ _ r k 0).trans ?_)
    exact expert_words_read r _ k _ (indices_read r x k)
  · have z : broadcastInDim S64512x4 ![] bcast_S_S64512x4 (constant (F := Ideal) S_ .f32 0x00000000#32) (ix2 r e) = (0 : EReal) :=
      (host_scalar _ _ _ _ ix0).trans lit_zero
    rw [z]
    rfl

/-- With real scores, the weights are the gate's. -/
theorem gates_read (B : ℝ) (h : ∀ e, Within B (rowScores r x e)) (e : Fin 4) : refGates x (ix2 r e) = gate (rowScores r x) e := by
  have v0 : refValues x (ix2 r (0 : Fin 2)) = rowScores r x (first (rowScores r x)) := values_read r x 0
  have v1 : refValues x (ix2 r (1 : Fin 2)) = rowScores r x (second (rowScores r x)) := values_read r x 1
  have hm : max (rowScores r x (first (rowScores r x))) (rowScores r x (second (rowScores r x))) = rowScores r x (first (rowScores r x)) :=
    max_eq_left (first_spec _ _).1
  have e0 : refExps (refValues x) (ix2 r (0 : Fin 2)) = 1 := by
    rw [exps_read, v0, v1, hm]
    obtain ⟨a, ha, _⟩ := h (first (rowScores r x))
    rw [ha, ← EReal.coe_sub, sub_self, Ideal.exp_coe, Real.exp_zero]
    rfl
  have e1 : refExps (refValues x) (ix2 r (1 : Fin 2)) = ratio (rowScores r x) := by
    rw [exps_read, v0, v1, hm]
    rfl
  rw [gates_spread, weights_read, weights_read, e0, e1]
  rfl

end Cert.Moe.Ref
-- ==== Proof.RefLayer.lean ====
module

public import proofs.«01_k».proof.Proof.RefRouter

/-! The reference's mixture layer on all tokens, read at one token. -/

@[expose] public section

namespace Cert.Moe.Ref

open Idealize.ShloMosaic Idealize.ShloMosaic.TcCoe Idealize.ShloMosaic.ValueIdx
open Cert.ReferenceIdeal Cert.ReferenceIdeal.Gen

/-- All tokens' scores. -/
noncomputable def refScores (t : FVec Ideal S64512x128 .f32) (gw : FVec Ideal S128x4 .f32) : FVec Ideal S64512x4 .f32 :=
  Host.dotGeneral dot_S64512x128_S128x4_S64512x4_1_0_0_1_n_n none t gw

/-- One expert's hidden activations on all tokens. -/
noncomputable def refHidden (t : FVec Ideal S64512x128 .f32) (w1 : FVec Ideal S128x256 .f32) (b1 : FVec Ideal S256 .f32) :
    FVec Ideal S64512x256 .f32 :=
  maximumf (addf (Host.dotGeneral dot_S64512x128_S128x256_S64512x256_1_0_0_1_n_n none t w1)
      (broadcastInDim S64512x256 ![0, 1] bcast_S1x256_S64512x256_0_1 (broadcastInDim S1x256 ![1] bcast_S256_S1x256_1 b1)))
    (broadcastInDim S64512x256 ![] bcast_S_S64512x256 (constant S_ .f32 0x00000000#32))

/-- What one expert makes of all tokens. -/
noncomputable def refExpert (t : FVec Ideal S64512x128 .f32) (w1 : FVec Ideal S128x256 .f32) (b1 : FVec Ideal S256 .f32)
    (w2 : FVec Ideal S256x128 .f32) (b2 : FVec Ideal S128 .f32) : FVec Ideal S64512x128 .f32 :=
  addf (Host.dotGeneral dot_S64512x256_S256x128_S64512x128_1_0_0_1_n_n none (refHidden t w1 b1) w2)
    (broadcastInDim S64512x128 ![0, 1] bcast_S1x128_S64512x128_0_1 (broadcastInDim S1x128 ![1] bcast_S128_S1x128_1 b2))

/-- An expert's part: its weight times what it makes. -/
noncomputable def refPart (g : FVec Ideal S64512x1 .f32) (y : FVec Ideal S64512x128 .f32) : FVec Ideal S64512x128 .f32 :=
  mulf (broadcastInDim S64512x128 ![0, 1] bcast_S64512x1_S64512x128_0_1 g) y

/-- The parts summed from zero, in the experts' order. -/
noncomputable def refMix (t : FVec Ideal S64512x128 .f32) (g : Fin 4 → FVec Ideal S64512x1 .f32) (w1 : Fin 4 → FVec Ideal S128x256 .f32)
    (b1 : Fin 4 → FVec Ideal S256 .f32) (w2 : Fin 4 → FVec Ideal S256x128 .f32) (b2 : Fin 4 → FVec Ideal S128 .f32) :
    FVec Ideal S64512x128 .f32 :=
  addf (addf (addf (addf (broadcastInDim S64512x128 ![] bcast_S_S64512x128 (constant S_ .f32 0x00000000#32))
    (refPart (g 0) (refExpert t (w1 0) (b1 0) (w2 0) (b2 0))))
    (refPart (g 1) (refExpert t (w1 1) (b1 1) (w2 1) (b2 1))))
    (refPart (g 2) (refExpert t (w1 2) (b1 2) (w2 2) (b2 2))))
    (refPart (g 3) (refExpert t (w1 3) (b1 3) (w2 3) (b2 3)))

variable {p : Layer} {tok : Fin 128 → EReal} (r : Fin 64512) {t : FVec Ideal S64512x128 .f32} (ht : ∀ d, t (ix2 r d) = tok d)
include ht

/-- A token's scores. -/
theorem scores_read {gw : FVec Ideal S128x4 .f32} (hgw : ∀ d e, gw (ix2 d e) = p.gw d e) :
    rowScores r (refScores t gw) = p.score tok := by
  funext e
  refine (StackMember.dotGeneral_plain_apply (m := 64512) (n := 4) none t gw r e).trans (Finset.sum_congr rfl fun d _ => ?_)
  rw [ht, hgw]

/-- A token's hidden activations. -/
theorem hidden_read {w1 : FVec Ideal S128x256 .f32} {b1 : FVec Ideal S256 .f32} (e : Fin 4) (hw1 : ∀ d h, w1 (ix2 d h) = p.w1 e d h)
    (hb1 : ∀ h, b1 (ix1 h) = p.b1 e h) (h : Fin 256) : refHidden t w1 b1 (ix2 r h) = p.hidden tok e h := by
  refine congrArg₂ max (congrArg₂ (· + ·) ?_ ?_) ?_
  · refine (StackMember.dotGeneral_plain_apply (m := 64512) (n := 256) none t w1 r h).trans (Finset.sum_congr rfl fun d _ => ?_)
    rw [ht, hw1]
  · exact (host_rows_down (N := 64512) (M := 256) _ _ r h).trans ((host_row (N := 256) _ _ 0 h).trans (hb1 h))
  · exact (host_scalar _ _ _ _ ix0).trans lit_zero

/-- What an expert makes of a token. -/
theorem expert_read {w1 : FVec Ideal S128x256 .f32} {b1 : FVec Ideal S256 .f32} {w2 : FVec Ideal S256x128 .f32} {b2 : FVec Ideal S128 .f32}
    (e : Fin 4) (hw1 : ∀ d h, w1 (ix2 d h) = p.w1 e d h) (hb1 : ∀ h, b1 (ix1 h) = p.b1 e h) (hw2 : ∀ h d, w2 (ix2 h d) = p.w2 e h d)
    (hb2 : ∀ d, b2 (ix1 d) = p.b2 e d) (d : Fin 128) : refExpert t w1 b1 w2 b2 (ix2 r d) = p.expert tok e d := by
  refine congrArg₂ (· + ·) ?_ ?_
  · refine (StackMember.dotGeneral_plain_apply (m := 64512) (n := 128) none (refHidden t w1 b1) w2 r d).trans (Finset.sum_congr rfl fun h _ => ?_)
    rw [hidden_read r ht e hw1 hb1, hw2]
  · exact (host_rows_down (N := 64512) (M := 128) _ _ r d).trans ((host_row (N := 128) _ _ 0 d).trans (hb2 d))

/-- The experts' weighted sum at a token. -/
theorem mix_read {g : Fin 4 → FVec Ideal S64512x1 .f32} {w1 : Fin 4 → FVec Ideal S128x256 .f32} {b1 : Fin 4 → FVec Ideal S256 .f32}
    {w2 : Fin 4 → FVec Ideal S256x128 .f32} {b2 : Fin 4 → FVec Ideal S128 .f32} (hg : ∀ e, g e (ix2 r (0 : Fin 1)) = gate (p.score tok) e)
    (hw1 : ∀ e d h, w1 e (ix2 d h) = p.w1 e d h) (hb1 : ∀ e h, b1 e (ix1 h) = p.b1 e h) (hw2 : ∀ e h d, w2 e (ix2 h d) = p.w2 e h d)
    (hb2 : ∀ e d, b2 e (ix1 d) = p.b2 e d) (d : Fin 128) : tok d + refMix t g w1 b1 w2 b2 (ix2 r d) = p.run tok d := by
  have part : ∀ e, refPart (g e) (refExpert t (w1 e) (b1 e) (w2 e) (b2 e)) (ix2 r d) = gate (p.score tok) e * p.expert tok e d := fun e =>
    congrArg₂ (· * ·) ((host_lanes (N := 64512) (M := 128) _ _ r d).trans (hg e)) (expert_read r ht e (hw1 e) (hb1 e) (hw2 e) (hb2 e) d)
  refine congrArg (tok d + ·) ?_
  refine congrArg₂ (· + ·) (congrArg₂ (· + ·) (congrArg₂ (· + ·) ?_ (part 1)) (part 2)) (part 3)
  refine (congrArg₂ (· + ·) ?_ (part 0)).trans (zero_add _)
  exact (host_scalar _ _ _ _ ix0).trans lit_zero

end Cert.Moe.Ref
-- ==== Proof.RefParams.lean ====
module

public import proofs.«01_k».proof.Proof.RefLayer

/-! The reference's two layers' parameters, taken out of the stacked arrays. -/

@[expose] public section

namespace Cert.Moe.Ref

open Idealize.ShloMosaic Idealize.ShloMosaic.TcCoe Idealize.ShloMosaic.ValueIdx
open Cert.ReferenceIdeal Cert.ReferenceIdeal.Gen Cert.ReferenceIdeal.Read

/-- One matrix of a stack of stacks. -/
theorem pick_matrix {α : Type} {n m : ℕ} (x : (⟨4, ![2, 4, n, m]⟩ : Shape).Idx → α) (l : Fin 2) (e : Fin 4) (off : Fin 4 → ℕ)
    (ho : off = ![l.val, e.val, 0, 0]) (h : (⟨4, ![2, 4, n, m]⟩ : Shape).Slices off ⟨4, ![1, 1, n, m]⟩)
    (h' : (⟨4, ![1, 1, n, m]⟩ : Shape).ShapeCasts ⟨2, ![n, m]⟩) (i : Fin n) (j : Fin m) :
    shapeCast ⟨2, ![n, m]⟩ (extractStridedSlice ⟨4, ![1, 1, n, m]⟩ off x h) h' (ix2 i j) = x (ix4 l e i j) := by
  subst ho
  refine (cast_drop_two _ h' i j).trans (extractStridedSlice_apply _ x h _ _ fun ax => ?_)
  match ax with
  | ⟨0, _⟩ => rfl
  | ⟨1, _⟩ => rfl
  | ⟨2, _⟩ => exact (Nat.zero_add _).symm
  | ⟨3, _⟩ => exact (Nat.zero_add _).symm

/-- One vector of a stack of stacks. -/
theorem pick_vector {α : Type} {n : ℕ} (x : (⟨3, ![2, 4, n]⟩ : Shape).Idx → α) (l : Fin 2) (e : Fin 4) (off : Fin 3 → ℕ)
    (ho : off = ![l.val, e.val, 0]) (h : (⟨3, ![2, 4, n]⟩ : Shape).Slices off ⟨3, ![1, 1, n]⟩)
    (h' : (⟨3, ![1, 1, n]⟩ : Shape).ShapeCasts ⟨1, ![n]⟩) (i : Fin n) :
    shapeCast ⟨1, ![n]⟩ (extractStridedSlice ⟨3, ![1, 1, n]⟩ off x h) h' (ix1 i) = x (ix3 l e i) := by
  subst ho
  refine (shapeCast_apply _ h' (ix1 i) (ix3 (0 : Fin 1) (0 : Fin 1) i) ?_).trans (extractStridedSlice_apply _ x h _ _ fun ax => ?_)
  · rw [Shape.rowMajor_val_three, Shape.rowMajor_val_one]
    show (0 * 1 + 0) * n + i.val = i.val
    omega
  · match ax with
    | ⟨0, _⟩ => rfl
    | ⟨1, _⟩ => rfl
    | ⟨2, _⟩ => exact (Nat.zero_add _).symm

/-- One matrix of a stack. -/
theorem pick_layer {α : Type} {n m : ℕ} (x : (⟨3, ![2, n, m]⟩ : Shape).Idx → α) (l : Fin 2) (off : Fin 3 → ℕ)
    (ho : off = ![l.val, 0, 0]) (h : (⟨3, ![2, n, m]⟩ : Shape).Slices off ⟨3, ![1, n, m]⟩)
    (h' : (⟨3, ![1, n, m]⟩ : Shape).ShapeCasts ⟨2, ![n, m]⟩) (i : Fin n) (j : Fin m) :
    shapeCast ⟨2, ![n, m]⟩ (extractStridedSlice ⟨3, ![1, n, m]⟩ off x h) h' (ix2 i j) = x (ix3 l i j) := by
  subst ho
  refine (shapeCast_apply _ h' (ix2 i j) (ix3 (0 : Fin 1) i j) ?_).trans (extractStridedSlice_apply _ x h _ _ fun ax => ?_)
  · rw [Shape.rowMajor_val_three, Shape.rowMajor_val_two]
    show (0 * n + i.val) * m + j.val = i.val * m + j.val
    rw [Nat.zero_mul, Nat.zero_add]
  · match ax with
    | ⟨0, _⟩ => rfl
    | ⟨1, _⟩ => exact (Nat.zero_add _).symm
    | ⟨2, _⟩ => exact (Nat.zero_add _).symm

/-- The columns of an array of weights, as the reference slices them. -/
noncomputable def gateColumns (x : FVec Ideal S64512x4 .f32) : Fin 4 → FVec Ideal S64512x1 .f32 :=
  ![extractStridedSlice S64512x1 ![0, 0] x slices_S64512x4_S64512x1_0_0, extractStridedSlice S64512x1 ![0, 1] x slices_S64512x4_S64512x1_0_1,
    extractStridedSlice S64512x1 ![0, 2] x slices_S64512x4_S64512x1_0_2, extractStridedSlice S64512x1 ![0, 3] x slices_S64512x4_S64512x1_0_3]

/-- Entry 0 of a list of four. -/
theorem four_zero {α : Type*} (p q r s : α) : (![p, q, r, s] : Fin 4 → α) 0 = p := rfl

/-- Entry 1 of a list of four. -/
theorem four_one {α : Type*} (p q r s : α) : (![p, q, r, s] : Fin 4 → α) 1 = q := rfl

/-- Entry 2 of a list of four. -/
theorem four_two {α : Type*} (p q r s : α) : (![p, q, r, s] : Fin 4 → α) 2 = r := rfl

/-- Entry 3 of a list of four. -/
theorem four_three {α : Type*} (p q r s : α) : (![p, q, r, s] : Fin 4 → α) 3 = s := rfl

/-- Column 0 of the list. -/
theorem columns_zero (x : FVec Ideal S64512x4 .f32) :
    gateColumns x 0 = extractStridedSlice S64512x1 ![0, 0] x slices_S64512x4_S64512x1_0_0 := four_zero _ _ _ _

/-- Column 1 of the list. -/
theorem columns_one (x : FVec Ideal S64512x4 .f32) :
    gateColumns x 1 = extractStridedSlice S64512x1 ![0, 1] x slices_S64512x4_S64512x1_0_1 := four_one _ _ _ _

/-- Column 2 of the list. -/
theorem columns_two (x : FVec Ideal S64512x4 .f32) :
    gateColumns x 2 = extractStridedSlice S64512x1 ![0, 2] x slices_S64512x4_S64512x1_0_2 := four_two _ _ _ _

/-- Column 3 of the list. -/
theorem columns_three (x : FVec Ideal S64512x4 .f32) :
    gateColumns x 3 = extractStridedSlice S64512x1 ![0, 3] x slices_S64512x4_S64512x1_0_3 := four_three _ _ _ _

/-- One column of a matrix of four. -/
theorem pick_column {N : ℕ} (x : Arr ![N, 4]) (e : Fin 4) (off : Fin 2 → ℕ) (ho : off = ![0, e.val])
    (h : (⟨2, ![N, 4]⟩ : Shape).Slices off ⟨2, ![N, 1]⟩) (r : Fin N) :
    extractStridedSlice ⟨2, ![N, 1]⟩ off x h (ix2 r (0 : Fin 1)) = x (ix2 r e) := by
  subst ho
  refine extractStridedSlice_apply _ x h _ _ fun ax => ?_
  match ax with
  | ⟨0, _⟩ => exact (Nat.zero_add _).symm
  | ⟨1, _⟩ => rfl

/-- A column read at a token. -/
theorem columns_read (x : FVec Ideal S64512x4 .f32) (e : Fin 4) (r : Fin 64512) : gateColumns x e (ix2 r (0 : Fin 1)) = x (ix2 r e) := by
  match e with
  | 0 => exact pick_column (N := 64512) x 0 _ rfl slices_S64512x4_S64512x1_0_0 r
  | 1 => exact pick_column (N := 64512) x 1 _ rfl slices_S64512x4_S64512x1_0_1 r
  | 2 => exact pick_column (N := 64512) x 2 _ rfl slices_S64512x4_S64512x1_0_2 r
  | 3 => exact pick_column (N := 64512) x 3 _ rfl slices_S64512x4_S64512x1_0_3 r

variable (a : Args)

/-- The first layer's experts' first matrices. -/
noncomputable def firstW1 : Fin 4 → FVec Ideal S128x256 .f32 :=
  ![val_main_v42 (F := Ideal) a.a7, val_main_v63 (F := Ideal) a.a7, val_main_v84 (F := Ideal) a.a7, val_main_v105 (F := Ideal) a.a7]

theorem firstW1_read (e : Fin 4) (i : Fin 128) (j : Fin 256) : firstW1 a e (ix2 i j) = (a.layer 0).w1 e i j := by
  match e with
  | 0 => exact pick_matrix a.a7 0 0 _ rfl slices_S2x4x128x256_S1x1x128x256_0_0_0_0 _ i j
  | 1 => exact pick_matrix a.a7 0 1 _ rfl slices_S2x4x128x256_S1x1x128x256_0_1_0_0 _ i j
  | 2 => exact pick_matrix a.a7 0 2 _ rfl slices_S2x4x128x256_S1x1x128x256_0_2_0_0 _ i j
  | 3 => exact pick_matrix a.a7 0 3 _ rfl slices_S2x4x128x256_S1x1x128x256_0_3_0_0 _ i j

/-- The first layer's experts' first biases. -/
noncomputable def firstB1 : Fin 4 → FVec Ideal S256 .f32 :=
  ![val_main_v45 (F := Ideal) a.a8, val_main_v66 (F := Ideal) a.a8, val_main_v87 (F := Ideal) a.a8, val_main_v108 (F := Ideal) a.a8]

theorem firstB1_read (e : Fin 4) (i : Fin 256) : firstB1 a e (ix1 i) = (a.layer 0).b1 e i := by
  match e with
  | 0 => exact pick_vector a.a8 0 0 _ rfl slices_S2x4x256_S1x1x256_0_0_0 _ i
  | 1 => exact pick_vector a.a8 0 1 _ rfl slices_S2x4x256_S1x1x256_0_1_0 _ i
  | 2 => exact pick_vector a.a8 0 2 _ rfl slices_S2x4x256_S1x1x256_0_2_0 _ i
  | 3 => exact pick_vector a.a8 0 3 _ rfl slices_S2x4x256_S1x1x256_0_3_0 _ i

/-- The first layer's experts' second matrices. -/
noncomputable def firstW2 : Fin 4 → FVec Ideal S256x128 .f32 :=
  ![val_main_v52 (F := Ideal) a.a9, val_main_v73 (F := Ideal) a.a9, val_main_v94 (F := Ideal) a.a9, val_main_v115 (F := Ideal) a.a9]

theorem firstW2_read (e : Fin 4) (i : Fin 256) (j : Fin 128) : firstW2 a e (ix2 i j) = (a.layer 0).w2 e i j := by
  match e with
  | 0 => exact pick_matrix a.a9 0 0 _ rfl slices_S2x4x256x128_S1x1x256x128_0_0_0_0 _ i j
  | 1 => exact pick_matrix a.a9 0 1 _ rfl slices_S2x4x256x128_S1x1x256x128_0_1_0_0 _ i j
  | 2 => exact pick_matrix a.a9 0 2 _ rfl slices_S2x4x256x128_S1x1x256x128_0_2_0_0 _ i j
  | 3 => exact pick_matrix a.a9 0 3 _ rfl slices_S2x4x256x128_S1x1x256x128_0_3_0_0 _ i j

/-- The first layer's experts' second biases. -/
noncomputable def firstB2 : Fin 4 → FVec Ideal S128 .f32 :=
  ![val_main_v55 (F := Ideal) a.a10, val_main_v76 (F := Ideal) a.a10, val_main_v97 (F := Ideal) a.a10, val_main_v118 (F := Ideal) a.a10]

theorem firstB2_read (e : Fin 4) (i : Fin 128) : firstB2 a e (ix1 i) = (a.layer 0).b2 e i := by
  match e with
  | 0 => exact pick_vector a.a10 0 0 _ rfl slices_S2x4x128_S1x1x128_0_0_0 _ i
  | 1 => exact pick_vector a.a10 0 1 _ rfl slices_S2x4x128_S1x1x128_0_1_0 _ i
  | 2 => exact pick_vector a.a10 0 2 _ rfl slices_S2x4x128_S1x1x128_0_2_0 _ i
  | 3 => exact pick_vector a.a10 0 3 _ rfl slices_S2x4x128_S1x1x128_0_3_0 _ i

/-- The second layer's experts' first matrices. -/
noncomputable def secondW1 : Fin 4 → FVec Ideal S128x256 .f32 :=
  ![val_main_v161 (F := Ideal) a.a7, val_main_v182 (F := Ideal) a.a7, val_main_v203 (F := Ideal) a.a7, val_main_v224 (F := Ideal) a.a7]

theorem secondW1_read (e : Fin 4) (i : Fin 128) (j : Fin 256) : secondW1 a e (ix2 i j) = (a.layer 1).w1 e i j := by
  match e with
  | 0 => exact pick_matrix a.a7 1 0 _ rfl slices_S2x4x128x256_S1x1x128x256_1_0_0_0 _ i j
  | 1 => exact pick_matrix a.a7 1 1 _ rfl slices_S2x4x128x256_S1x1x128x256_1_1_0_0 _ i j
  | 2 => exact pick_matrix a.a7 1 2 _ rfl slices_S2x4x128x256_S1x1x128x256_1_2_0_0 _ i j
  | 3 => exact pick_matrix a.a7 1 3 _ rfl slices_S2x4x128x256_S1x1x128x256_1_3_0_0 _ i j

/-- The second layer's experts' first biases. -/
noncomputable def secondB1 : Fin 4 → FVec Ideal S256 .f32 :=
  ![val_main_v164 (F := Ideal) a.a8, val_main_v185 (F := Ideal) a.a8, val_main_v206 (F := Ideal) a.a8, val_main_v227 (F := Ideal) a.a8]

theorem secondB1_read (e : Fin 4) (i : Fin 256) : secondB1 a e (ix1 i) = (a.layer 1).b1 e i := by
  match e with
  | 0 => exact pick_vector a.a8 1 0 _ rfl slices_S2x4x256_S1x1x256_1_0_0 _ i
  | 1 => exact pick_vector a.a8 1 1 _ rfl slices_S2x4x256_S1x1x256_1_1_0 _ i
  | 2 => exact pick_vector a.a8 1 2 _ rfl slices_S2x4x256_S1x1x256_1_2_0 _ i
  | 3 => exact pick_vector a.a8 1 3 _ rfl slices_S2x4x256_S1x1x256_1_3_0 _ i

/-- The second layer's experts' second matrices. -/
noncomputable def secondW2 : Fin 4 → FVec Ideal S256x128 .f32 :=
  ![val_main_v171 (F := Ideal) a.a9, val_main_v192 (F := Ideal) a.a9, val_main_v213 (F := Ideal) a.a9, val_main_v234 (F := Ideal) a.a9]

theorem secondW2_read (e : Fin 4) (i : Fin 256) (j : Fin 128) : secondW2 a e (ix2 i j) = (a.layer 1).w2 e i j := by
  match e with
  | 0 => exact pick_matrix a.a9 1 0 _ rfl slices_S2x4x256x128_S1x1x256x128_1_0_0_0 _ i j
  | 1 => exact pick_matrix a.a9 1 1 _ rfl slices_S2x4x256x128_S1x1x256x128_1_1_0_0 _ i j
  | 2 => exact pick_matrix a.a9 1 2 _ rfl slices_S2x4x256x128_S1x1x256x128_1_2_0_0 _ i j
  | 3 => exact pick_matrix a.a9 1 3 _ rfl slices_S2x4x256x128_S1x1x256x128_1_3_0_0 _ i j

/-- The second layer's experts' second biases. -/
noncomputable def secondB2 : Fin 4 → FVec Ideal S128 .f32 :=
  ![val_main_v174 (F := Ideal) a.a10, val_main_v195 (F := Ideal) a.a10, val_main_v216 (F := Ideal) a.a10, val_main_v237 (F := Ideal) a.a10]

theorem secondB2_read (e : Fin 4) (i : Fin 128) : secondB2 a e (ix1 i) = (a.layer 1).b2 e i := by
  match e with
  | 0 => exact pick_vector a.a10 1 0 _ rfl slices_S2x4x128_S1x1x128_1_0_0 _ i
  | 1 => exact pick_vector a.a10 1 1 _ rfl slices_S2x4x128_S1x1x128_1_1_0 _ i
  | 2 => exact pick_vector a.a10 1 2 _ rfl slices_S2x4x128_S1x1x128_1_2_0 _ i
  | 3 => exact pick_vector a.a10 1 3 _ rfl slices_S2x4x128_S1x1x128_1_3_0 _ i

theorem firstGate_read (d : Fin 128) (e : Fin 4) : val_main_v10 (F := Ideal) a.a6 (ix2 d e) = (a.layer 0).gw d e :=
  pick_layer a.a6 0 _ rfl _ _ d e

theorem secondGate_read (d : Fin 128) (e : Fin 4) : val_main_v129 (F := Ideal) a.a6 (ix2 d e) = (a.layer 1).gw d e :=
  pick_layer a.a6 1 _ rfl _ _ d e

end Cert.Moe.Ref
-- ==== Proof.RefTokens.lean ====
module

public import proofs.«01_k».proof.Proof.RefParams

/-! The reference's tokens and what its two layers make of them, read at one token. -/

@[expose] public section

namespace Cert.Moe.Ref

open Idealize.ShloMosaic Idealize.ShloMosaic.TcCoe Idealize.ShloMosaic.ValueIdx
open Cert.ReferenceIdeal Cert.ReferenceIdeal.Gen Cert.ReferenceIdeal.Read

/-- The row of a token among all tokens. -/
def refRow (b : Fin 32) (s : Fin 96) (n : Fin 21) : Fin 64512 := ⟨(b.val * 96 + s.val) * 21 + n.val, by omega⟩

variable {α : Type} (b : Fin 32) (s : Fin 96) (n : Fin 21) (d : Fin 128)

/-- All tokens laid out as rows. -/
theorem flatten_read (x : (⟨4, ![32, 96, 21, 128]⟩ : Shape).Idx → α)
    (h : (⟨4, ![32, 96, 21, 128]⟩ : Shape).ShapeCasts ⟨2, ![64512, 128]⟩) :
    shapeCast ⟨2, ![64512, 128]⟩ x h (ix2 (refRow b s n) d) = x (ix4 b s n d) :=
  shapeCast_apply x h _ _ (by
    rw [Shape.rowMajor_val_four, Shape.rowMajor_val_two]
    show ((b.val * 96 + s.val) * 21 + n.val) * 128 + d.val = ((b.val * 96 + s.val) * 21 + n.val) * 128 + d.val
    rfl)

/-- Rows taken back to their places. -/
theorem unflatten_read (x : (⟨2, ![64512, 128]⟩ : Shape).Idx → α)
    (h : (⟨2, ![64512, 128]⟩ : Shape).ShapeCasts ⟨4, ![32, 96, 21, 128]⟩) :
    shapeCast ⟨4, ![32, 96, 21, 128]⟩ x h (ix4 b s n d) = x (ix2 (refRow b s n) d) :=
  shapeCast_apply x h _ _ (by
    rw [Shape.rowMajor_val_four, Shape.rowMajor_val_two]
    show ((b.val * 96 + s.val) * 21 + n.val) * 128 + d.val = ((b.val * 96 + s.val) * 21 + n.val) * 128 + d.val
    rfl)

/-- Observations followed in time by a filling. -/
theorem follow_read (x : (⟨3, ![32, 72, 21]⟩ : Shape).Idx → α) (y : (⟨3, ![32, 24, 21]⟩ : Shape).Idx → α)
    (h : Shape.Concatenates [⟨3, ![32, 72, 21]⟩, ⟨3, ![32, 24, 21]⟩] ⟨3, ![32, 96, 21]⟩ (1 : Fin 3)) :
    concatenate ⟨3, ![32, 96, 21]⟩ (1 : Fin 3) [⟨⟨3, ![32, 72, 21]⟩, x⟩, ⟨⟨3, ![32, 24, 21]⟩, y⟩] h (ix3 b s n)
      = if hs : s.val < 72 then x (ix3 b ⟨s.val, hs⟩ n) else y (ix3 b ⟨s.val - 72, by omega⟩ n) := by
  split
  · rename_i hs
    refine concatenate_pair_apply_left _ x y h _ rfl _ fun ax => ?_
    match ax with
    | ⟨0, _⟩ => rfl
    | ⟨1, _⟩ => rfl
    | ⟨2, _⟩ => rfl
  · rename_i hs
    refine concatenate_pair_apply_right _ x y h _ rfl rfl (ix3 b ⟨s.val - 72, by omega⟩ n) (fun ax hb => ?_) ?_
    · match ax with
      | ⟨0, _⟩ => rfl
      | ⟨1, _⟩ => exact absurd rfl hb
      | ⟨2, _⟩ => rfl
    · show s.val - 72 + 72 = s.val
      omega

variable (a : Args)

/-- The padded observations. -/
theorem series_read : val_main_v1 (F := Ideal) a.a1 (ix3 b s n) = a.series b n s := by
  refine (follow_read b s n a.a1 (val_main_v0 (F := Ideal)) _).trans ?_
  unfold Args.series
  split
  · rfl
  · exact lit_zero

/-- The reference's token is the token. -/
theorem token_read : val_main_v6 (F := Ideal) a.a1 a.a4 a.a5 (ix4 b s n d) = a.tok b n s d := by
  refine congrArg₂ (· + ·) ?_ ?_
  · refine (val_main_v3_apply a.a1 a.a4 (ix4 b s n d)).trans ((Fin.sum_univ_one _).trans (congrArg₂ (· * ·) ?_ ?_))
    · refine (val_main_v2_apply (F := Ideal) a.a1 _).trans (Eq.trans ?_ (series_read b s n a))
      refine congrArg (val_main_v1 (F := Ideal) a.a1) (funext fun ax => ?_)
      match ax with
      | ⟨0, _⟩ => rfl
      | ⟨1, _⟩ => rfl
      | ⟨2, _⟩ => rfl
    · refine congrArg a.a4 (funext fun ax => ?_)
      match ax with
      | ⟨0, _⟩ => rfl
      | ⟨1, _⟩ => rfl
  · refine (val_main_v5_apply (F := Ideal) a.a5 _).trans ((val_main_v4_apply (F := Ideal) a.a5 _).trans (congrArg a.a5 (funext fun ax => ?_)))
    match ax with
    | ⟨0, _⟩ => rfl

/-- The first layer's weights. -/
theorem first_gates : val_main_v39 (F := Ideal) a.a1 a.a4 a.a5 a.a6
    = refGates (refScores (val_main_v8 (F := Ideal) a.a1 a.a4 a.a5) (val_main_v10 (F := Ideal) a.a6)) := (rfl)

/-- The first layer's expert 0's part. -/
theorem first_part0 : val_main_v60 (F := Ideal) a.a1 a.a4 a.a5 a.a6 a.a7 a.a8 a.a9 a.a10
    = refPart (gateColumns (val_main_v39 (F := Ideal) a.a1 a.a4 a.a5 a.a6) 0) (refExpert (val_main_v8 (F := Ideal) a.a1 a.a4 a.a5) (firstW1 a 0) (firstB1 a 0) (firstW2 a 0) (firstB2 a 0)) := by rw [columns_zero]; rfl

/-- The first layer's expert 1's part. -/
theorem first_part1 : val_main_v81 (F := Ideal) a.a1 a.a4 a.a5 a.a6 a.a7 a.a8 a.a9 a.a10
    = refPart (gateColumns (val_main_v39 (F := Ideal) a.a1 a.a4 a.a5 a.a6) 1) (refExpert (val_main_v8 (F := Ideal) a.a1 a.a4 a.a5) (firstW1 a 1) (firstB1 a 1) (firstW2 a 1) (firstB2 a 1)) := by rw [columns_one]; rfl

/-- The first layer's expert 2's part. -/
theorem first_part2 : val_main_v102 (F := Ideal) a.a1 a.a4 a.a5 a.a6 a.a7 a.a8 a.a9 a.a10
    = refPart (gateColumns (val_main_v39 (F := Ideal) a.a1 a.a4 a.a5 a.a6) 2) (refExpert (val_main_v8 (F := Ideal) a.a1 a.a4 a.a5) (firstW1 a 2) (firstB1 a 2) (firstW2 a 2) (firstB2 a 2)) := by rw [columns_two]; rfl

/-- The first layer's expert 3's part. -/
theorem first_part3 : val_main_v123 (F := Ideal) a.a1 a.a4 a.a5 a.a6 a.a7 a.a8 a.a9 a.a10
    = refPart (gateColumns (val_main_v39 (F := Ideal) a.a1 a.a4 a.a5 a.a6) 3) (refExpert (val_main_v8 (F := Ideal) a.a1 a.a4 a.a5) (firstW1 a 3) (firstB1 a 3) (firstW2 a 3) (firstB2 a 3)) := by rw [columns_three]; rfl

/-- The reference's first mixture. -/
theorem first_mix : val_main_v124 (F := Ideal) a.a1 a.a4 a.a5 a.a6 a.a7 a.a8 a.a9 a.a10
    = refMix (val_main_v8 (F := Ideal) a.a1 a.a4 a.a5)
        (gateColumns (refGates (refScores (val_main_v8 (F := Ideal) a.a1 a.a4 a.a5) (val_main_v10 (F := Ideal) a.a6))))
        (firstW1 a) (firstB1 a) (firstW2 a) (firstB2 a) := by
  unfold val_main_v124 val_main_v103 val_main_v82 val_main_v61 refMix
  rw [first_part0, first_part1, first_part2, first_part3, first_gates]
  rfl

/-- The second layer's weights. -/
theorem second_gates : val_main_v158 (F := Ideal) a.a1 a.a4 a.a5 a.a6 a.a7 a.a8 a.a9 a.a10
    = refGates (refScores (val_main_v127 (F := Ideal) a.a1 a.a4 a.a5 a.a6 a.a7 a.a8 a.a9 a.a10) (val_main_v129 (F := Ideal) a.a6)) := (rfl)

/-- The second layer's expert 0's part. -/
theorem second_part0 : val_main_v179 (F := Ideal) a.a1 a.a4 a.a5 a.a6 a.a7 a.a8 a.a9 a.a10
    = refPart (gateColumns (val_main_v158 (F := Ideal) a.a1 a.a4 a.a5 a.a6 a.a7 a.a8 a.a9 a.a10) 0) (refExpert (val_main_v127 (F := Ideal) a.a1 a.a4 a.a5 a.a6 a.a7 a.a8 a.a9 a.a10) (secondW1 a 0) (secondB1 a 0) (secondW2 a 0) (secondB2 a 0)) := by rw [columns_zero]; rfl

/-- The second layer's expert 1's part. -/
theorem second_part1 : val_main_v200 (F := Ideal) a.a1 a.a4 a.a5 a.a6 a.a7 a.a8 a.a9 a.a10
    = refPart (gateColumns (val_main_v158 (F := Ideal) a.a1 a.a4 a.a5 a.a6 a.a7 a.a8 a.a9 a.a10) 1) (refExpert (val_main_v127 (F := Ideal) a.a1 a.a4 a.a5 a.a6 a.a7 a.a8 a.a9 a.a10) (secondW1 a 1) (secondB1 a 1) (secondW2 a 1) (secondB2 a 1)) := by rw [columns_one]; rfl

/-- The second layer's expert 2's part. -/
theorem second_part2 : val_main_v221 (F := Ideal) a.a1 a.a4 a.a5 a.a6 a.a7 a.a8 a.a9 a.a10
    = refPart (gateColumns (val_main_v158 (F := Ideal) a.a1 a.a4 a.a5 a.a6 a.a7 a.a8 a.a9 a.a10) 2) (refExpert (val_main_v127 (F := Ideal) a.a1 a.a4 a.a5 a.a6 a.a7 a.a8 a.a9 a.a10) (secondW1 a 2) (secondB1 a 2) (secondW2 a 2) (secondB2 a 2)) := by rw [columns_two]; rfl

/-- The second layer's expert 3's part. -/
theorem second_part3 : val_main_v242 (F := Ideal) a.a1 a.a4 a.a5 a.a6 a.a7 a.a8 a.a9 a.a10
    = refPart (gateColumns (val_main_v158 (F := Ideal) a.a1 a.a4 a.a5 a.a6 a.a7 a.a8 a.a9 a.a10) 3) (refExpert (val_main_v127 (F := Ideal) a.a1 a.a4 a.a5 a.a6 a.a7 a.a8 a.a9 a.a10) (secondW1 a 3) (secondB1 a 3) (secondW2 a 3) (secondB2 a 3)) := by rw [columns_three]; rfl

/-- The reference's second mixture. -/
theorem second_mix : val_main_v243 (F := Ideal) a.a1 a.a4 a.a5 a.a6 a.a7 a.a8 a.a9 a.a10
    = refMix (val_main_v127 (F := Ideal) a.a1 a.a4 a.a5 a.a6 a.a7 a.a8 a.a9 a.a10)
        (gateColumns (refGates (refScores (val_main_v127 (F := Ideal) a.a1 a.a4 a.a5 a.a6 a.a7 a.a8 a.a9 a.a10) (val_main_v129 (F := Ideal) a.a6))))
        (secondW1 a) (secondB1 a) (secondW2 a) (secondB2 a) := by
  unfold val_main_v243 val_main_v222 val_main_v201 val_main_v180 refMix
  rw [second_part0, second_part1, second_part2, second_part3, second_gates]
  rfl

variable {a} (H : a.Moderate)
include H

/-- After the first layer. -/
theorem first_read : val_main_v126 (F := Ideal) a.a1 a.a4 a.a5 a.a6 a.a7 a.a8 a.a9 a.a10 (ix4 b s n d)
    = (a.layer 0).run (a.tok b n s) d := by
  have ht : ∀ d, val_main_v8 (F := Ideal) a.a1 a.a4 a.a5 (ix2 (refRow b s n) d) = a.tok b n s d := fun d =>
    (flatten_read b s n d _ _).trans (token_read b s n d a)
  have hs := scores_read (p := a.layer 0) (refRow b s n) ht (gw := val_main_v10 (F := Ideal) a.a6) (firstGate_read a)
  refine Eq.trans (congrArg₂ (· + ·) (token_read b s n d a) ((unflatten_read b s n d _ _).trans (congrFun (first_mix a) _))) ?_
  refine mix_read (refRow b s n) ht (fun e => ?_) (firstW1_read a) (firstB1_read a) (firstW2_read a) (firstB2_read a) d
  refine (columns_read _ e _).trans ((gates_read _ _ 100000000000000000000000000000 (fun e => ?_) e).trans (by rw [hs]))
  rw [hs]
  exact H.first b n s e

/-- After the second layer. -/
theorem second_read : val_main_v245 (F := Ideal) a.a1 a.a4 a.a5 a.a6 a.a7 a.a8 a.a9 a.a10 (ix4 b s n d)
    = (a.layer 1).run ((a.layer 0).run (a.tok b n s)) d := by
  have ht : ∀ d, val_main_v127 (F := Ideal) a.a1 a.a4 a.a5 a.a6 a.a7 a.a8 a.a9 a.a10 (ix2 (refRow b s n) d)
      = (a.layer 0).run (a.tok b n s) d := fun d => (flatten_read b s n d _ _).trans (first_read b s n d H)
  have hs := scores_read (p := a.layer 1) (refRow b s n) ht (gw := val_main_v129 (F := Ideal) a.a6) (secondGate_read a)
  refine Eq.trans (congrArg₂ (· + ·) (first_read b s n d H) ((unflatten_read b s n d _ _).trans (congrFun (second_mix a) _))) ?_
  refine mix_read (refRow b s n) ht (fun e => ?_) (secondW1_read a) (secondB1_read a) (secondW2_read a) (secondB2_read a) d
  refine (columns_read _ e _).trans ((gates_read _ _ 100000000000000000000000000000 (fun e => ?_) e).trans (by rw [hs]))
  rw [hs]
  exact H.second b n s e

end Cert.Moe.Ref
-- ==== Proof.RefTail.lean ====
module

public import proofs.«01_k».proof.Proof.RefTokens

/-! The reference after its layers: the mean over positions, the time embedding, the decoder, and the result array. -/

@[expose] public section

namespace Cert.Moe.Ref

open Idealize.ShloMosaic Idealize.ShloMosaic.TcCoe Idealize.ShloMosaic.ValueIdx
open Cert.ReferenceIdeal Cert.ReferenceIdeal.Gen Cert.ReferenceIdeal.Read

section Generic

variable {α : Type} {A B C M : ℕ}

/-- A bias spread over three leading axes. -/
theorem host_bias (x : (⟨1, ![M]⟩ : Shape).Idx → α) (h : (⟨1, ![M]⟩ : Shape).BroadcastsInDim ⟨4, ![1, 1, 1, M]⟩ ![3])
    (h' : (⟨4, ![1, 1, 1, M]⟩ : Shape).BroadcastsInDim ⟨4, ![A, B, C, M]⟩ ![0, 1, 2, 3]) (p : Fin A) (q : Fin B) (r : Fin C) (d : Fin M) :
    broadcastInDim ⟨4, ![A, B, C, M]⟩ ![0, 1, 2, 3] h' (broadcastInDim ⟨4, ![1, 1, 1, M]⟩ ![3] h x) (ix4 p q r d) = x (ix1 d) := by
  have one : ∀ (e : Fin M) (z : ℕ), z = e.val → e.val = if M = 1 then 0 else z := fun e z hz => by
    split
    · have := e.isLt; omega
    · exact hz.symm
  refine (broadcastInDim_apply _ h' _ _ (ix4 (0 : Fin 1) (0 : Fin 1) (0 : Fin 1) d) fun ax => ?_).trans
    (broadcastInDim_apply _ h x _ _ fun ax => ?_)
  · match ax with
    | ⟨0, _⟩ => rfl
    | ⟨1, _⟩ => rfl
    | ⟨2, _⟩ => rfl
    | ⟨3, _⟩ => exact one d _ rfl
  · match ax with
    | ⟨0, _⟩ => exact one d _ rfl

/-- Two arrays side by side along the last of four axes. -/
theorem beside_read {N N' : ℕ} (x : (⟨4, ![A, B, C, N]⟩ : Shape).Idx → α) (y : (⟨4, ![A, B, C, N']⟩ : Shape).Idx → α)
    (h : Shape.Concatenates [⟨4, ![A, B, C, N]⟩, ⟨4, ![A, B, C, N']⟩] ⟨4, ![A, B, C, M]⟩ (3 : Fin 4)) (hM : M = N + N')
    (p : Fin A) (q : Fin B) (r : Fin C) (d : Fin M) :
    concatenate ⟨4, ![A, B, C, M]⟩ (3 : Fin 4) [⟨⟨4, ![A, B, C, N]⟩, x⟩, ⟨⟨4, ![A, B, C, N']⟩, y⟩] h (ix4 p q r d)
      = if hd : d.val < N then x (ix4 p q r ⟨d.val, hd⟩) else y (ix4 p q r ⟨d.val - N, by omega⟩) := by
  split
  · refine concatenate_pair_apply_left _ x y h _ rfl _ fun ax => ?_
    match ax with
    | ⟨0, _⟩ => rfl
    | ⟨1, _⟩ => rfl
    | ⟨2, _⟩ => rfl
    | ⟨3, _⟩ => rfl
  · rename_i hd
    refine concatenate_pair_apply_right _ x y h _ rfl rfl (ix4 p q r ⟨d.val - N, by omega⟩) (fun ax hb => ?_) ?_
    · match ax with
      | ⟨0, _⟩ => rfl
      | ⟨1, _⟩ => rfl
      | ⟨2, _⟩ => rfl
      | ⟨3, _⟩ => exact absurd rfl hb
    · show d.val - N + N = d.val
      omega

end Generic

variable {a : Args} (b : Fin 32) (n : Fin 21) (t : Fin 96)

/-- The reference's mean over positions. -/
theorem mean_read (H : a.Moderate) (d : Fin 128) :
    val_main_v249 (F := Ideal) a.a1 a.a4 a.a5 a.a6 a.a7 a.a8 a.a9 a.a10 (ix3 b n d) = a.summary b n d := by
  unfold val_main_v249
  rw [host_divf_apply, val_main_v247_apply]
  have hz : val_main_cst_19 (F := Ideal) (Shape.Idx.first h_S_) = 0 := lit_zero
  have hn : val_main_v248 (F := Ideal) (ix3 b n d) = ((96 : ℝ) : EReal) := (val_main_v248_apply (F := Ideal) _).trans lit_ninetysix
  rw [hz, hn, zero_add, Ideal.div_coe (by norm_num), one_div]
  refine congrArg (· * ((96⁻¹ : ℝ) : EReal)) (Finset.sum_congr rfl fun s _ => ?_)
  refine (val_main_v246_apply (F := Ideal) _ _ _ _ _ _ _ _ _).trans (Eq.trans ?_ (second_read b s n d H))
  refine congrArg (val_main_v245 (F := Ideal) a.a1 a.a4 a.a5 a.a6 a.a7 a.a8 a.a9 a.a10) (funext fun ax => ?_)
  match ax with
  | ⟨0, _⟩ => rfl
  | ⟨1, _⟩ => rfl
  | ⟨2, _⟩ => rfl
  | ⟨3, _⟩ => rfl

/-- The mean spread over the times. -/
theorem spread_mean_read (H : a.Moderate) (d : Fin 128) :
    val_main_v251 (F := Ideal) a.a1 a.a4 a.a5 a.a6 a.a7 a.a8 a.a9 a.a10 (ix4 b n t d) = a.summary b n d := by
  refine (val_main_v251_apply (F := Ideal) _ _ _ _ _ _ _ _ _).trans ((val_main_v250_apply (F := Ideal) _ _ _ _ _ _ _ _ _).trans
    (Eq.trans ?_ (mean_read b n H d)))
  refine congrArg (val_main_v249 (F := Ideal) a.a1 a.a4 a.a5 a.a6 a.a7 a.a8 a.a9 a.a10) (funext fun ax => ?_)
  match ax with
  | ⟨0, _⟩ => rfl
  | ⟨1, _⟩ => rfl
  | ⟨2, _⟩ => rfl

variable (a)

/-- The times spread over the variables. -/
theorem times_read (u : Fin 1) : val_main_v253 (F := Ideal) a.a0 (ix4 b n t u) = a.a0 (ix2 b t) := by
  refine (val_main_v253_apply (F := Ideal) a.a0 _).trans ?_
  refine shapeCast_apply a.a0 _ _ (ix2 b t) ?_
  refine (Shape.rowMajor_val_two _).trans (Eq.trans ?_ (Shape.rowMajor_val_four _).symm)
  show b.val * 96 + t.val = ((b.val * 1 + 0) * 96 + t.val) * 1 + 0
  omega

/-- The line of the time embedding. -/
theorem line_read (u : Fin 1) : val_main_v257 (F := Ideal) a.a0 a.a11 a.a12 (ix4 b n t u)
    = a.a0 (ix2 b t) * a.a11 (ix2 (0 : Fin 1) (0 : Fin 1)) + a.a12 (ix1 (0 : Fin 1)) := by
  obtain rfl : u = 0 := Subsingleton.elim _ _
  refine congrArg₂ (· + ·) ?_ (host_bias (A := 32) (B := 21) (C := 96) (M := 1) a.a12 _ _ b n t 0)
  refine (val_main_v254_apply a.a0 a.a11 _).trans ((Fin.sum_univ_one _).trans (congrArg₂ (· * ·) ?_ ?_))
  · refine Eq.trans (congrArg (val_main_v253 (F := Ideal) a.a0) (funext fun ax => ?_)) (times_read a b n t 0)
    match ax with
    | ⟨0, _⟩ => rfl
    | ⟨1, _⟩ => rfl
    | ⟨2, _⟩ => rfl
    | ⟨3, _⟩ => rfl
  · refine congrArg a.a11 (funext fun ax => ?_)
    match ax with
    | ⟨0, _⟩ => rfl
    | ⟨1, _⟩ => rfl

/-- The waves of the time embedding. -/
theorem waves_read (d : Fin 127) : val_main_v262 (F := Ideal) a.a0 a.a13 a.a14 (ix4 b n t d)
    = Ideal.sin (a.a0 (ix2 b t) * a.a13 (ix2 (0 : Fin 1) d) + a.a14 (ix1 d)) := by
  refine congrArg Ideal.sin (congrArg₂ (· + ·) ?_ (host_bias (A := 32) (B := 21) (C := 96) (M := 127) a.a14 _ _ b n t d))
  refine (val_main_v258_apply a.a0 a.a13 _).trans ((Fin.sum_univ_one _).trans (congrArg₂ (· * ·) ?_ ?_))
  · refine Eq.trans (congrArg (val_main_v253 (F := Ideal) a.a0) (funext fun ax => ?_)) (times_read a b n t 0)
    match ax with
    | ⟨0, _⟩ => rfl
    | ⟨1, _⟩ => rfl
    | ⟨2, _⟩ => rfl
    | ⟨3, _⟩ => rfl
  · refine congrArg a.a13 (funext fun ax => ?_)
    match ax with
    | ⟨0, _⟩ => rfl
    | ⟨1, _⟩ => rfl

/-- The embedding of a time by the arguments' parameters. -/
noncomputable def moment (a : Args) (b : Fin 32) (t : Fin 96) : Fin 128 → EReal :=
  embed (a.a11 (ix2 (0 : Fin 1) (0 : Fin 1))) (a.a12 (ix1 (0 : Fin 1))) (fun d => a.a13 (ix2 (0 : Fin 1) d)) (fun d => a.a14 (ix1 d))
    (a.a0 (ix2 b t))

/-- The reference's time embedding. -/
theorem moment_read (d : Fin 128) :
    val_main_v263 (F := Ideal) a.a0 a.a11 a.a12 a.a13 a.a14 (ix4 b n t d) = moment a b t d := by
  refine (beside_read (A := 32) (B := 21) (C := 96) (M := 128) (N := 1) (N' := 127) (val_main_v257 (F := Ideal) a.a0 a.a11 a.a12)
    (val_main_v262 (F := Ideal) a.a0 a.a13 a.a14) _ rfl b n t d).trans ?_
  unfold moment embed
  by_cases hd : d.val = 0
  · rw [dif_pos (by omega), dif_pos hd]
    exact line_read a b n t _
  · rw [dif_neg (by omega), dif_neg hd]
    exact waves_read a b n t _

variable {a} (H : a.Moderate)
include H

/-- What the decoder is given. -/
theorem input_read (i : Fin 256) :
    val_main_v264 (F := Ideal) a.a0 a.a1 a.a4 a.a5 a.a6 a.a7 a.a8 a.a9 a.a10 a.a11 a.a12 a.a13 a.a14 (ix4 b n t i)
      = if h : i.val < 128 then a.summary b n ⟨i.val, h⟩ else moment a b t ⟨i.val - 128, by omega⟩ := by
  refine (beside_read (A := 32) (B := 21) (C := 96) (M := 256) (N := 128) (N' := 128)
    (val_main_v251 (F := Ideal) a.a1 a.a4 a.a5 a.a6 a.a7 a.a8 a.a9 a.a10)
    (val_main_v263 (F := Ideal) a.a0 a.a11 a.a12 a.a13 a.a14) _ rfl b n t i).trans ?_
  split
  · exact spread_mean_read b n t H _
  · exact moment_read a b n t _

/-- The decoder's first layer. -/
theorem decode_first_read (j : Fin 128) :
    val_main_v269 (F := Ideal) a.a0 a.a1 a.a4 a.a5 a.a6 a.a7 a.a8 a.a9 a.a10 a.a11 a.a12 a.a13 a.a14 a.a15 a.a16 (ix4 b n t j)
      = max ((∑ i : Fin 256, (if h : i.val < 128 then a.summary b n ⟨i.val, h⟩ else moment a b t ⟨i.val - 128, by omega⟩) * a.a15 (ix2 i j))
          + a.a16 (ix1 j)) 0 := by
  refine congrArg₂ max (congrArg₂ (· + ·) ?_ (host_bias (A := 32) (B := 21) (C := 96) (M := 128) a.a16 _ _ b n t j)) ?_
  · refine (val_main_v265_apply _ _ _ _ _ _ _ _ _ _ _ _ _ _ _).trans (Finset.sum_congr rfl fun i _ => congrArg₂ (· * ·) ?_ ?_)
    · refine Eq.trans (congrArg (val_main_v264 (F := Ideal) a.a0 a.a1 a.a4 a.a5 a.a6 a.a7 a.a8 a.a9 a.a10 a.a11 a.a12 a.a13 a.a14)
        (funext fun ax => ?_)) (input_read b n t H i)
      match ax with
      | ⟨0, _⟩ => rfl
      | ⟨1, _⟩ => rfl
      | ⟨2, _⟩ => rfl
      | ⟨3, _⟩ => rfl
    · refine congrArg a.a15 (funext fun ax => ?_)
      match ax with
      | ⟨0, _⟩ => rfl
      | ⟨1, _⟩ => rfl
  · exact (val_main_call8_v0_apply (F := Ideal) _).trans lit_zero

/-- The decoder's second layer. -/
theorem decode_second_read (k : Fin 128) :
    val_main_v274 (F := Ideal) a.a0 a.a1 a.a4 a.a5 a.a6 a.a7 a.a8 a.a9 a.a10 a.a11 a.a12 a.a13 a.a14 a.a15 a.a16 a.a17 a.a18 (ix4 b n t k)
      = max ((∑ j, max ((∑ i : Fin 256, (if h : i.val < 128 then a.summary b n ⟨i.val, h⟩ else moment a b t ⟨i.val - 128, by omega⟩)
            * a.a15 (ix2 i j)) + a.a16 (ix1 j)) 0 * a.a17 (ix2 j k)) + a.a18 (ix1 k)) 0 := by
  refine congrArg₂ max (congrArg₂ (· + ·) ?_ (host_bias (A := 32) (B := 21) (C := 96) (M := 128) a.a18 _ _ b n t k)) ?_
  · refine (val_main_v270_apply _ _ _ _ _ _ _ _ _ _ _ _ _ _ _ _ _).trans (Finset.sum_congr rfl fun j _ => congrArg₂ (· * ·) ?_ ?_)
    · refine Eq.trans (congrArg (val_main_v269 (F := Ideal) a.a0 a.a1 a.a4 a.a5 a.a6 a.a7 a.a8 a.a9 a.a10 a.a11 a.a12 a.a13 a.a14 a.a15 a.a16)
        (funext fun ax => ?_)) (decode_first_read b n t H j)
      match ax with
      | ⟨0, _⟩ => rfl
      | ⟨1, _⟩ => rfl
      | ⟨2, _⟩ => rfl
      | ⟨3, _⟩ => rfl
    · refine congrArg a.a17 (funext fun ax => ?_)
      match ax with
      | ⟨0, _⟩ => rfl
      | ⟨1, _⟩ => rfl
  · exact (val_main_call9_v0_apply (F := Ideal) _).trans lit_zero

/-- The decoder's value for one variable at one time. -/
theorem decode_third_read (u : Fin 1) :
    val_main_v278 (F := Ideal) a.a0 a.a1 a.a4 a.a5 a.a6 a.a7 a.a8 a.a9 a.a10 a.a11 a.a12 a.a13 a.a14 a.a15 a.a16 a.a17 a.a18 a.a19 a.a20
      (ix4 b n t u) = a.answer b t n := by
  obtain rfl : u = 0 := Subsingleton.elim _ _
  refine congrArg₂ (· + ·) ?_ (host_bias (A := 32) (B := 21) (C := 96) (M := 1) a.a20 _ _ b n t 0)
  refine (val_main_v275_apply _ _ _ _ _ _ _ _ _ _ _ _ _ _ _ _ _ _ _).trans (Finset.sum_congr rfl fun k _ => congrArg₂ (· * ·) ?_ ?_)
  · refine Eq.trans (congrArg (val_main_v274 (F := Ideal) a.a0 a.a1 a.a4 a.a5 a.a6 a.a7 a.a8 a.a9 a.a10 a.a11 a.a12 a.a13 a.a14 a.a15 a.a16
      a.a17 a.a18) (funext fun ax => ?_)) (decode_second_read b n t H k)
    match ax with
    | ⟨0, _⟩ => rfl
    | ⟨1, _⟩ => rfl
    | ⟨2, _⟩ => rfl
    | ⟨3, _⟩ => rfl
  · refine congrArg a.a19 (funext fun ax => ?_)
    match ax with
    | ⟨0, _⟩ => rfl
    | ⟨1, _⟩ => rfl

/-- The decoder's values without their unit axis. -/
theorem flat_read :
    val_main_v279 (F := Ideal) a.a0 a.a1 a.a4 a.a5 a.a6 a.a7 a.a8 a.a9 a.a10 a.a11 a.a12 a.a13 a.a14 a.a15 a.a16 a.a17 a.a18 a.a19 a.a20
      (ix3 b n t) = a.answer b t n := by
  refine Eq.trans ?_ (decode_third_read b n t H 0)
  unfold val_main_v279
  refine shapeCast_apply _ _ _ (ix4 b n t (0 : Fin 1)) ?_
  refine (Shape.rowMajor_val_four _).trans (Eq.trans ?_ (Shape.rowMajor_val_three _).symm)
  show ((b.val * 21 + n.val) * 96 + t.val) * 1 + 0 = (b.val * 21 + n.val) * 96 + t.val
  omega

/-- The reference's result array. -/
theorem reference_answer :
    val_main_v281 (F := Ideal) a.a0 a.a1 a.a4 a.a5 a.a6 a.a7 a.a8 a.a9 a.a10 a.a11 a.a12 a.a13 a.a14 a.a15 a.a16 a.a17 a.a18 a.a19 a.a20
      = a.result := by
  refine funext fun i => (val_main_v281_apply (F := Ideal) _ _ _ _ _ _ _ _ _ _ _ _ _ _ _ _ _ _ _ i).trans
    ((val_main_v280_apply (F := Ideal) _ _ _ _ _ _ _ _ _ _ _ _ _ _ _ _ _ _ _ _).trans (Eq.trans ?_ (flat_read (i 1) (i 3) (i 2) H)))
  refine congrArg (val_main_v279 (F := Ideal) a.a0 a.a1 a.a4 a.a5 a.a6 a.a7 a.a8 a.a9 a.a10 a.a11 a.a12 a.a13 a.a14 a.a15 a.a16 a.a17 a.a18
    a.a19 a.a20) (funext fun ax => ?_)
  match ax with
  | ⟨0, _⟩ => rfl
  | ⟨1, _⟩ => rfl
  | ⟨2, _⟩ => rfl

end Cert.Moe.Ref
-- ==== Proof.PreDecode.lean ====
module

public import proofs.«01_k».proof.Defs
public import proofs.«01_k».proof.Proof.Gen.Pre_moderate
public import proofs.«01_k».proof.Proof.KernelArrays

/-! What the precondition says: every entry of the eight arrays it names is a number within ten thousand. -/

@[expose] public section

namespace Cert.Moe.Pre

open Idealize.ShloMosaic Idealize.ShloMosaic.TcCoe Idealize.ShloMosaic.ValueIdx

/-- A conjunction of two bits is one only where both are. -/
theorem both {a b : BitVec 1} : IntOp.andi a b = 1#1 → a = 1#1 ∧ b = 1#1 := by
  revert a b
  decide

/-- A conjunction over a list is one only where it starts at one and every entry is one. -/
theorem all_of_foldl {β : Type} (f : β → BitVec 1) (l : List β) (z : BitVec 1) (h : l.foldl (fun r n => IntOp.andi r (f n)) z = 1#1) :
    z = 1#1 ∧ ∀ n ∈ l, f n = 1#1 := by
  induction l generalizing z with
  | nil => exact ⟨h, fun n hn => absurd hn List.not_mem_nil⟩
  | cons b l ih =>
    obtain ⟨hz, hl⟩ := ih _ h
    obtain ⟨hz, hb⟩ := both hz
    exact ⟨hz, fun n hn => (List.mem_cons.mp hn).elim (fun e => e ▸ hb) (hl n)⟩

/-- A conjunction over a whole array is one only where every entry is one. -/
theorem all_of_reduce {s u : Shape} {axes : List (Fin s.rank)} (x : IVec s 1) (init : IVec u 1) (h : s.ReducesTo axes ⟨0, ![]⟩)
    (hu : 0 < u.numel) (j : (⟨0, ![]⟩ : Shape).Idx) (hx : Host.reduce IntOp.andi x init h hu j = 1#1) (i : s.Idx) : x i = 1#1 := by
  have := (all_of_foldl _ _ _ hx).2 (s.rowMajor i) (List.mem_filter.mpr ⟨List.mem_finRange _, decide_eq_true (funext fun a => a.elim0)⟩)
  rwa [Equiv.symm_apply_apply] at this

/-- A value whose greater of itself and its opposite is at most ten thousand is a number within ten thousand. -/
theorem within_of_abs {x : EReal} (h : max x (-x) ≤ ((10000 : ℝ) : EReal)) : Within 10000 x := by
  obtain ⟨h₁, h₂⟩ := max_le_iff.mp h
  induction x with
  | bot => exact absurd h₂ (by simp)
  | top => exact absurd h₁ (by simp)
  | coe r =>
    refine ⟨r, rfl, abs_le.mpr ⟨?_, by exact_mod_cast h₁⟩⟩
    have : -r ≤ (10000 : ℝ) := by exact_mod_cast h₂
    linarith

/-- A truth value written as a bit is one only where the statement holds. -/
theorem of_one (p : Prop) [Decidable p] (h : BitVec.ofBool (decide p) = 1#1) : p := by
  by_contra hp
  rw [decide_eq_false hp] at h
  exact absurd h (by decide)

/-- The test the precondition makes of one array: a one says that every entry is within ten thousand. -/
theorem within_of_test {s : Shape} {axes : List (Fin s.rank)} (x : FVec Ideal s .f32) (hb : (⟨0, ![]⟩ : Shape).BroadcastsInDim s ![])
    (h : s.ReducesTo axes ⟨0, ![]⟩) (hu : 0 < (⟨0, ![]⟩ : Shape).numel) (j : (⟨0, ![]⟩ : Shape).Idx)
    (hx : Host.reduce IntOp.andi (cmpf .ole (Host.absf x) (broadcastInDim s ![] hb (constant (F := Ideal) ⟨0, ![]⟩ .f32 0x461C4000#32)))
      (constantI ⟨0, ![]⟩ 1 1#1) h hu j = 1#1) (i : s.Idx) : Within 10000 (x i) := by
  have hi := all_of_reduce _ _ h hu j hx i
  exact within_of_abs (lit_bound ▸ of_one _ hi)

/-- The precondition of the kernel's argument arrays. -/
theorem moderate_of_pre (m : (ℓ : Loc KernelIdeal.nD KernelIdeal.τ KernelIdeal.sig) → Buf (Elt Ideal) ℓ) (H : Pre_KernelIdeal_moderate m)
    (c : Dev KernelIdeal.nD) : (kernelArgs m c).Moderate := by
  have h := congrFun (H c) ix0
  obtain ⟨h, t10⟩ := both h
  obtain ⟨h, t9⟩ := both h
  obtain ⟨h, t8⟩ := both h
  obtain ⟨h, t7⟩ := both h
  obtain ⟨h, t6⟩ := both h
  obtain ⟨h, t5⟩ := both h
  obtain ⟨t1, t4⟩ := both h
  exact ⟨within_of_test _ _ _ _ _ t1, within_of_test _ _ _ _ _ t4, within_of_test _ _ _ _ _ t5, within_of_test _ _ _ _ _ t6,
    within_of_test _ _ _ _ _ t7, within_of_test _ _ _ _ _ t8, within_of_test _ _ _ _ _ t9, within_of_test _ _ _ _ _ t10⟩

end Cert.Moe.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_moderate
public import proofs.«01_k».proof.Proof.KernelRun
public import proofs.«01_k».proof.Proof.RefTail
public import proofs.«01_k».proof.Proof.PreDecode
public import Idealize.ShloMosaic.Adequacy
public import Idealize.ShloMosaic.Init

@[expose] public section

noncomputable section

namespace Cert.Proof

open Idealize.ShloMosaic Idealize.ShloMosaic.StableHlo Idealize.SL.Sem Cert.Kernel

/-- The reference's run at the ideal instance leaves the arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The arrays the reference is given. -/
def referenceArgs (m : (ℓ : Loc Cert.ReferenceIdeal.nD Cert.ReferenceIdeal.τ Cert.ReferenceIdeal.sig) → Buf (Elt Ideal) ℓ)
    (c : Dev Cert.ReferenceIdeal.nD) : Moe.Args where
  a0 := m ((c.tc : Thread Cert.ReferenceIdeal.nD Cert.ReferenceIdeal.τ).loc Cert.ReferenceIdeal.main_arg0)
  a1 := m ((c.tc : Thread Cert.ReferenceIdeal.nD Cert.ReferenceIdeal.τ).loc Cert.ReferenceIdeal.main_arg1)
  a4 := m ((c.tc : Thread Cert.ReferenceIdeal.nD Cert.ReferenceIdeal.τ).loc Cert.ReferenceIdeal.main_arg4)
  a5 := m ((c.tc : Thread Cert.ReferenceIdeal.nD Cert.ReferenceIdeal.τ).loc Cert.ReferenceIdeal.main_arg5)
  a6 := m ((c.tc : Thread Cert.ReferenceIdeal.nD Cert.ReferenceIdeal.τ).loc Cert.ReferenceIdeal.main_arg6)
  a7 := m ((c.tc : Thread Cert.ReferenceIdeal.nD Cert.ReferenceIdeal.τ).loc Cert.ReferenceIdeal.main_arg7)
  a8 := m ((c.tc : Thread Cert.ReferenceIdeal.nD Cert.ReferenceIdeal.τ).loc Cert.ReferenceIdeal.main_arg8)
  a9 := m ((c.tc : Thread Cert.ReferenceIdeal.nD Cert.ReferenceIdeal.τ).loc Cert.ReferenceIdeal.main_arg9)
  a10 := m ((c.tc : Thread Cert.ReferenceIdeal.nD Cert.ReferenceIdeal.τ).loc Cert.ReferenceIdeal.main_arg10)
  a11 := m ((c.tc : Thread Cert.ReferenceIdeal.nD Cert.ReferenceIdeal.τ).loc Cert.ReferenceIdeal.main_arg11)
  a12 := m ((c.tc : Thread Cert.ReferenceIdeal.nD Cert.ReferenceIdeal.τ).loc Cert.ReferenceIdeal.main_arg12)
  a13 := m ((c.tc : Thread Cert.ReferenceIdeal.nD Cert.ReferenceIdeal.τ).loc Cert.ReferenceIdeal.main_arg13)
  a14 := m ((c.tc : Thread Cert.ReferenceIdeal.nD Cert.ReferenceIdeal.τ).loc Cert.ReferenceIdeal.main_arg14)
  a15 := m ((c.tc : Thread Cert.ReferenceIdeal.nD Cert.ReferenceIdeal.τ).loc Cert.ReferenceIdeal.main_arg15)
  a16 := m ((c.tc : Thread Cert.ReferenceIdeal.nD Cert.ReferenceIdeal.τ).loc Cert.ReferenceIdeal.main_arg16)
  a17 := m ((c.tc : Thread Cert.ReferenceIdeal.nD Cert.ReferenceIdeal.τ).loc Cert.ReferenceIdeal.main_arg17)
  a18 := m ((c.tc : Thread Cert.ReferenceIdeal.nD Cert.ReferenceIdeal.τ).loc Cert.ReferenceIdeal.main_arg18)
  a19 := m ((c.tc : Thread Cert.ReferenceIdeal.nD Cert.ReferenceIdeal.τ).loc Cert.ReferenceIdeal.main_arg19)
  a20 := m ((c.tc : Thread Cert.ReferenceIdeal.nD Cert.ReferenceIdeal.τ).loc Cert.ReferenceIdeal.main_arg20)

/-- Both programs' runs leave the answer to the same arguments in their result arrays. -/
theorem same_answer : Cert.algebraic_KernelIdeal_ReferenceIdeal_pre_moderate := fun m g m' g' H agree =>
  ⟨fun c => (Moe.kernelArgs m c).result,
    Moe.kernel_run m g (Moe.Pre.moderate_of_pre m H),
    (θ_run Cert.ReferenceIdeal.defs _ _).mono (fun r h c => by
      have e : referenceArgs m' c = Moe.kernelArgs m c := by
        obtain ⟨e0, e1, _, _, e4, e5, e6, e7, e8, e9, e10, e11, e12, e13, e14, e15, e16, e17, e18, e19, e20⟩ := agree c
        unfold referenceArgs Moe.kernelArgs
        rw [e0, e1, e4, e5, e6, e7, e8, e9, e10, e11, e12, e13, e14, e15, e16, e17, e18, e19, e20]
      refine ⟨(h c).1.trans ((Cert.ReferenceIdeal.Read.val_main_v281_eq _).trans ?_), (h c).2⟩
      exact (Moe.Ref.reference_answer (a := referenceArgs m' c) (e ▸ Moe.Pre.moderate_of_pre m H c)).trans (congrArg Moe.Args.result e))
    (Cert.ReferenceIdeal.Value.run (F := Ideal) m' g')⟩

/-- Every claim. -/
theorem claim : Cert.Claim := ⟨Cert.Kernel.Gen.facts, Cert.KernelIdeal.Gen.facts, Cert.ReferenceIdeal.Gen.facts, Cert.Pre_moderate.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  IdealRules.named_const.statement Cert.KernelIdeal.κ "seq_mean" .f32 0x3C2AAAAB#32 _ rfl,
  same_answer⟩

end Cert.Proof

end
